-- ==== Defs.lean ====
def Pre_Gather [hPre_in_rows : Cert.Pre_in_rows.Facts] (m : (ℓ : Loc Cert.Gather.nD Cert.Gather.τ Cert.Gather.sig) → Buf (Elt Bits) ℓ) : Prop :=
  ∀ c : Dev Cert.Gather.nD,
    (Cert.Pre_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_rows : Cert.Pre_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_rows [hPre_in_rows : Cert.Pre_in_rows.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_rows.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_in_rows [hPre_tail_in_rows : Cert.Pre_tail_in_rows.Facts] (m : (ℓ : Loc Cert.TailIdeal.nD Cert.TailIdeal.τ Cert.TailIdeal.sig) → Buf (Elt Ideal) ℓ) : Prop :=
  ∀ c : Dev Cert.TailIdeal.nD,
    (Cert.Pre_tail_in_rows.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_tail_in_rows [hPre_tail_in_rows : Cert.Pre_tail_in_rows.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_tail_in_rows.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9))) = (fun _ => 1#1)

def quiescent_Gather [hGather : Cert.Gather.Facts] [hPre_in_rows : Cert.Pre_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_rows : Cert.Pre_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_in_rows [hGatherReferenceIdeal : Cert.GatherReferenceIdeal.Facts] [hPre_in_rows : Cert.Pre_in_rows.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_rows m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailIdeal_pre_tail_in_rows [hTailIdeal : Cert.TailIdeal.Facts] [hPre_tail_in_rows : Cert.Pre_tail_in_rows.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_in_rows m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_TailReferenceIdeal_pre_tail_in_rows [hTailReferenceIdeal : Cert.TailReferenceIdeal.Facts] [hPre_tail_in_rows : Cert.Pre_tail_in_rows.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_tail_in_rows m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] [hPre_in_rows : Cert.Pre_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v9)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v9) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v1) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v4)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v4) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v46) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2))

def preserves_Tail_TailIdeal : Prop :=
  True

def algebraic_TailIdeal_TailReferenceIdeal_pre_tail_in_rows [hTailIdeal : Cert.TailIdeal.Facts] [hTailReferenceIdeal : Cert.TailReferenceIdeal.Facts] [hPre_tail_in_rows : Cert.Pre_tail_in_rows.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_tail_in_rows m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v27)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v27) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v67) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9))

def Claim : Prop :=
  ∃ (hGather : Cert.Gather.Facts) (hGatherIdeal : Cert.GatherIdeal.Facts) (hGatherReferenceIdeal : Cert.GatherReferenceIdeal.Facts) (hScores : Cert.Scores.Facts) (hScoresIdeal : Cert.ScoresIdeal.Facts) (hScoresReferenceIdeal : Cert.ScoresReferenceIdeal.Facts) (hTail : Cert.Tail.Facts) (hTailIdeal : Cert.TailIdeal.Facts) (hTailReferenceIdeal : Cert.TailReferenceIdeal.Facts) (hPre_in_rows : Cert.Pre_in_rows.Facts) (hPre_tail_in_rows : Cert.Pre_tail_in_rows.Facts),
    quiescent_Gather (hGather := hGather) (hPre_in_rows := hPre_in_rows)
    ∧ quiescent_GatherIdeal (hGatherIdeal := hGatherIdeal) (hPre_in_rows := hPre_in_rows)
    ∧ quiescent_GatherReferenceIdeal (hGatherReferenceIdeal := hGatherReferenceIdeal)
    ∧ quiescent_GatherReferenceIdeal_pre_in_rows (hGatherReferenceIdeal := hGatherReferenceIdeal) (hPre_in_rows := hPre_in_rows)
    ∧ quiescent_Scores (hScores := hScores)
    ∧ quiescent_ScoresIdeal (hScoresIdeal := hScoresIdeal)
    ∧ quiescent_ScoresReferenceIdeal (hScoresReferenceIdeal := hScoresReferenceIdeal)
    ∧ quiescent_Tail (hTail := hTail)
    ∧ quiescent_TailIdeal (hTailIdeal := hTailIdeal)
    ∧ quiescent_TailIdeal_pre_tail_in_rows (hTailIdeal := hTailIdeal) (hPre_tail_in_rows := hPre_tail_in_rows)
    ∧ quiescent_TailReferenceIdeal (hTailReferenceIdeal := hTailReferenceIdeal)
    ∧ quiescent_TailReferenceIdeal_pre_tail_in_rows (hTailReferenceIdeal := hTailReferenceIdeal) (hPre_tail_in_rows := hPre_tail_in_rows)
    ∧ preserves_Gather_GatherIdeal
    ∧ algebraic_GatherIdeal_GatherReferenceIdeal (hGatherIdeal := hGatherIdeal) (hGatherReferenceIdeal := hGatherReferenceIdeal) (hPre_in_rows := hPre_in_rows)
    ∧ preserves_Scores_ScoresIdeal
    ∧ algebraic_ScoresIdeal_ScoresReferenceIdeal (hScoresIdeal := hScoresIdeal) (hScoresReferenceIdeal := hScoresReferenceIdeal)
    ∧ preserves_Tail_TailIdeal
    ∧ algebraic_TailIdeal_TailReferenceIdeal_pre_tail_in_rows (hTailIdeal := hTailIdeal) (hTailReferenceIdeal := hTailReferenceIdeal) (hPre_tail_in_rows := hPre_tail_in_rows)
-- ==== Pre_in_rows.lean ====
abbrev S4x16384x256 : Shape := ⟨3, ![4, 16384, 256]⟩
abbrev S4x1024 : Shape := ⟨2, ![4, 1024]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel

variable [Facts]

def fn {F : FTy → Type} [FloatOps F] (main_arg0 : FVec F S4x16384x256 .f32) (main_arg1 : IVec S4x1024 32) : IVec S_ 1 :=
  let main_c : IVec S_ 32 := constantI S_ 32 0#32
  let main_v0 : IVec S4x1024 32 := broadcastInDim S4x1024 ![] bcast_S_S4x1024 main_c
  let main_v1 : IVec S4x1024 1 := cmpi .sge main_arg1 main_v0
  let main_c_0 : IVec S_ 32 := constantI S_ 32 16384#32
  let main_v2 : IVec S4x1024 32 := broadcastInDim S4x1024 ![] bcast_S_S4x1024 main_c_0
  let main_v3 : IVec S4x1024 1 := cmpi .slt main_arg1 main_v2
  let main_v4 : IVec S4x1024 1 := andi main_v1 main_v3
  let main_c_1 : IVec S_ 1 := constantI S_ 1 1#1
  let main_v5 : IVec S_ 1 := (fun x v => Host.reduce IntOp.andi x v reducesTo_S4x1024_S_d0_1 h_S_) main_v4 main_c_1
  main_v5
-- ==== Pre_tail_in_rows.lean ====
abbrev S4x16384x256 : Shape := ⟨3, ![4, 16384, 256]⟩
abbrev S4x1024 : Shape := ⟨2, ![4, 1024]⟩
abbrev S256x91 : Shape := ⟨2, ![256, 91]⟩
abbrev S91 : Shape := ⟨1, ![91]⟩
abbrev S256x256 : Shape := ⟨2, ![256, 256]⟩
abbrev S256 : Shape := ⟨1, ![256]⟩
abbrev S256x4 : Shape := ⟨2, ![256, 4]⟩
abbrev S4 : Shape := ⟨1, ![4]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel

variable [Facts]

def fn {F : FTy → Type} [FloatOps F] (main_arg0 : FVec F S4x16384x256 .f32) (main_arg1 : IVec S4x1024 32) (main_arg2 : FVec F S256x91 .f32) (main_arg3 : FVec F S91 .f32) (main_arg4 : FVec F S256x256 .f32) (main_arg5 : FVec F S256 .f32) (main_arg6 : FVec F S256x256 .f32) (main_arg7 : FVec F S256 .f32) (main_arg8 : FVec F S256x4 .f32) (main_arg9 : FVec F S4 .f32) : IVec S_ 1 :=
  let main_c : IVec S_ 32 := constantI S_ 32 0#32
  let main_v0 : IVec S4x1024 32 := broadcastInDim S4x1024 ![] bcast_S_S4x1024 main_c
  let main_v1 : IVec S4x1024 1 := cmpi .sge main_arg1 main_v0
  let main_c_0 : IVec S_ 32 := constantI S_ 32 16384#32
  let main_v2 : IVec S4x1024 32 := broadcastInDim S4x1024 ![] bcast_S_S4x1024 main_c_0
  let main_v3 : IVec S4x1024 1 := cmpi .slt main_arg1 main_v2
  let main_v4 : IVec S4x1024 1 := andi main_v1 main_v3
  let main_c_1 : IVec S_ 1 := constantI S_ 1 1#1
  let main_v5 : IVec S_ 1 := (fun x v => Host.reduce IntOp.andi x v reducesTo_S4x1024_S_d0_1 h_S_) main_v4 main_c_1
  main_v5
-- ==== Gather.lean ====
abbrev S4x16384x256 : Shape := ⟨3, ![4, 16384, 256]⟩
abbrev S4x1024 : Shape := ⟨2, ![4, 1024]⟩
abbrev S4 : Shape := ⟨1, ![4]⟩
abbrev S4x1 : Shape := ⟨2, ![4, 1]⟩
abbrev S_ : Shape := ⟨0, ![]⟩
abbrev S4096 : Shape := ⟨1, ![4096]⟩
abbrev S65536x2x128 : Shape := ⟨3, ![65536, 2, 128]⟩
abbrev S4096x2x128 : Shape := ⟨3, ![4096, 2, 128]⟩
abbrev S128 : Shape := ⟨1, ![128]⟩
abbrev S128x2x128 : Shape := ⟨3, ![128, 2, 128]⟩
abbrev S4x1024x256 : Shape := ⟨3, ![4, 1024, 256]⟩

abbrev nBuf : Table → Nat
  | .hbm => 13
  | .local .scVector .vmem => 2
  | _ => 0

abbrev bufTy : (tb : Table) → Fin (nBuf tb) → BufTy
  | .hbm, ⟨0, _⟩ => ⟨S4x16384x256, .f32⟩
  | .hbm, ⟨1, _⟩ => ⟨S4x1024, .i32⟩
  | .hbm, ⟨2, _⟩ => ⟨S4, .i32⟩
  | .hbm, ⟨3, _⟩ => ⟨S4x1, .i32⟩
  | .hbm, ⟨4, _⟩ => ⟨S_, .i32⟩
  | .hbm, ⟨5, _⟩ => ⟨S4x1, .i32⟩
  | .hbm, ⟨6, _⟩ => ⟨S4x1, .i32⟩
  | .hbm, ⟨7, _⟩ => ⟨S4x1024, .i32⟩
  | .hbm, ⟨8, _⟩ => ⟨S4x1024, .i32⟩
  | .hbm, ⟨9, _⟩ => ⟨S4096, .i32⟩
  | .hbm, ⟨10, _⟩ => ⟨S65536x2x128, .f32⟩
  | .hbm, ⟨11, _⟩ => ⟨S4096x2x128, .f32⟩
  | .hbm, ⟨12, _⟩ => ⟨S4x1024x256, .f32⟩
  | .local .scVector .vmem, ⟨0, _⟩ => ⟨S128, .i32⟩
  | .local .scVector .vmem, ⟨1, _⟩ => ⟨S128x2x128, .f32⟩
  | _, _ => ⟨S4x16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v7_scv : Ref sig .scVector := ⟨.hbm, 10, rfl⟩
abbrev main_v6_scv : Ref sig .scVector := ⟨.hbm, 9, rfl⟩
abbrev main_v8_scv : Ref sig .scVector := ⟨.hbm, 11, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5_r1 : BitVec 32 := 0#32
  let c0_i32_6_r1 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S4x16384x256 : Shape := ⟨3, ![4, 16384, 256]⟩
abbrev S4x1024 : Shape := ⟨2, ![4, 1024]⟩
abbrev S4x1024x1 : Shape := ⟨3, ![4, 1024, 1]⟩
abbrev S_ : Shape := ⟨0, ![]⟩
abbrev S1 : Shape := ⟨1, ![1]⟩
abbrev S1x1x1 : Shape := ⟨3, ![1, 1, 1]⟩
abbrev S4x1024x256 : Shape := ⟨3, ![4, 1024, 256]⟩

abbrev nBuf : Space → Nat
  | .hbm => 25
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S4x1024, .i32⟩
  | .hbm, ⟨2, _⟩ => ⟨S4x1024x1, .i32⟩
  | .hbm, ⟨3, _⟩ => ⟨S_, .i32⟩
  | .hbm, ⟨4, _⟩ => ⟨S4x1024x1, .i32⟩
  | .hbm, ⟨5, _⟩ => ⟨S4x1024x1, .i1⟩
  | .hbm, ⟨6, _⟩ => ⟨S_, .i32⟩
  | .hbm, ⟨7, _⟩ => ⟨S4x1024x1, .i32⟩
  | .hbm, ⟨8, _⟩ => ⟨S4x1024x1, .i32⟩
  | .hbm, ⟨9, _⟩ => ⟨S4x1024x1, .i32⟩
  | .hbm, ⟨10, _⟩ => ⟨S1, .i32⟩
  | .hbm, ⟨11, _⟩ => ⟨S_, .i32⟩
  | .hbm, ⟨12, _⟩ => ⟨S4x1024x1, .i32⟩
  | .hbm, ⟨13, _⟩ => ⟨S4x1024x1, .i1⟩
  | .hbm, ⟨14, _⟩ => ⟨S1x1x1, .i32⟩
  | .hbm, ⟨15, _⟩ => ⟨S4x1024x1, .i32⟩
  | .hbm, ⟨16, _⟩ => ⟨S4x1024x1, .i1⟩
  | .hbm, ⟨17, _⟩ => ⟨S4x1024x1, .i1⟩
  | .hbm, ⟨18, _⟩ => ⟨S_, .i1⟩
  | .hbm, ⟨19, _⟩ => ⟨S4x1024, .i1⟩
  | .hbm, ⟨20, _⟩ => ⟨S4x1024x256, .f32⟩
  | .hbm, ⟨21, _⟩ => ⟨S4x1024x256, .i1⟩
  | .hbm, ⟨22, _⟩ => ⟨S_, .f32⟩
  | .hbm, ⟨23, _⟩ => ⟨S4x1024x256, .f32⟩
  | .hbm, ⟨24, _⟩ => ⟨S4x1024x256, .f32⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩

abbrev nD : Nat := 1
abbrev τ : Topo := Topo.v7x

variable {F : FTy → Type} [FloatOps F]
-- ==== Scores.lean ====
abbrev S4x16384x256 : Shape := ⟨3, ![4, 16384, 256]⟩
abbrev S256x91 : Shape := ⟨2, ![256, 91]⟩
abbrev S91 : Shape := ⟨1, ![91]⟩
abbrev S_ : Shape := ⟨0, ![]⟩
abbrev S256x128 : Shape := ⟨2, ![256, 128]⟩
abbrev S37 : Shape := ⟨1, ![37]⟩
abbrev S128 : Shape := ⟨1, ![128]⟩
abbrev S1x128 : Shape := ⟨2, ![1, 128]⟩
abbrev S4x1x16384 : Shape := ⟨3, ![4, 1, 16384]⟩
abbrev S1x2048x256 : Shape := ⟨3, ![1, 2048, 256]⟩
abbrev S1x1x2048 : Shape := ⟨3, ![1, 1, 2048]⟩
abbrev S2048x256 : Shape := ⟨2, ![2048, 256]⟩
abbrev S2048x128 : Shape := ⟨2, ![2048, 128]⟩
abbrev S128x2048 : Shape := ⟨2, ![128, 2048]⟩
abbrev S2048 : Shape := ⟨1, ![2048]⟩
abbrev S1x2048 : Shape := ⟨2, ![1, 2048]⟩

abbrev nBuf : Space → Nat
  | .hbm => 11
  | .vmem => 6
  | .smem => 0
  | _ => 0

abbrev bufTy : (tb : Table) → Fin (tcTables nBuf tb) → BufTy
  | .hbm, ⟨0, _⟩ => ⟨S4x16384x256, .f32⟩
  | .hbm, ⟨1, _⟩ => ⟨S256x91, .f32⟩
  | .hbm, ⟨2, _⟩ => ⟨S91, .f32⟩
  | .hbm, ⟨3, _⟩ => ⟨S_, .i32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S37, .f32⟩
  | .hbm, ⟨8, _⟩ => ⟨S128, .f32⟩
  | .hbm, ⟨9, _⟩ => ⟨S1x128, .f32⟩
  | .hbm, ⟨10, _⟩ => ⟨S4x1x16384, .f32⟩
  | .local _ .vmem, ⟨0, _⟩ => ⟨S1x2048x256, .f32⟩
  | .local _ .vmem, ⟨1, _⟩ => ⟨S1x2048x256, .f32⟩
  | .local _ .vmem, ⟨2, _⟩ => ⟨S256x128, .f32⟩
  | .local _ .vmem, ⟨3, _⟩ => ⟨S1x128, .f32⟩
  | .local _ .vmem, ⟨4, _⟩ => ⟨S1x1x2048, .f32⟩
  | .local _ .vmem, ⟨5, _⟩ => ⟨S1x1x2048, .f32⟩
  | _, _ => ⟨S4x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ScoresReferenceIdeal.lean ====
abbrev S4x16384x256 : Shape := ⟨3, ![4, 16384, 256]⟩
abbrev S256x91 : Shape := ⟨2, ![256, 91]⟩
abbrev S91 : Shape := ⟨1, ![91]⟩
abbrev S4x16384x91 : Shape := ⟨3, ![4, 16384, 91]⟩
abbrev S1x1x91 : Shape := ⟨3, ![1, 1, 91]⟩
abbrev S_ : Shape := ⟨0, ![]⟩
abbrev S4x16384 : Shape := ⟨2, ![4, 16384]⟩
abbrev S128 : Shape := ⟨1, ![128]⟩
abbrev S128x128 : Shape := ⟨2, ![128, 128]⟩
abbrev S16384 : Shape := ⟨1, ![16384]⟩
abbrev S16384x1 : Shape := ⟨2, ![16384, 1]⟩
abbrev S16384x4 : Shape := ⟨2, ![16384, 4]⟩
abbrev S1x16384 : Shape := ⟨2, ![1, 16384]⟩
abbrev S4x1x16384 : Shape := ⟨3, ![4, 1, 16384]⟩

abbrev nBuf : Space → Nat
  | .hbm => 64
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S256x91, .f32⟩
  | .hbm, ⟨2, _⟩ => ⟨S91, .f32⟩
  | .hbm, ⟨3, _⟩ => ⟨S4x16384x91, .f32⟩
  | .hbm, ⟨4, _⟩ => ⟨S1x1x91, .f32⟩
  | .hbm, ⟨5, _⟩ => ⟨S4x16384x91, .f32⟩
  | .hbm, ⟨6, _⟩ => ⟨S4x16384x91, .f32⟩
  | .hbm, ⟨7, _⟩ => ⟨S_, .f32⟩
  | .hbm, ⟨8, _⟩ => ⟨S4x16384, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S16384, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x4, .f32⟩
  | .hbm, ⟨34, _⟩ => ⟨S16384x1, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .i1⟩
  | .hbm, ⟨39, _⟩ => ⟨S16384x1, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .i1⟩
  | .hbm, ⟨44, _⟩ => ⟨S16384, .i1⟩
  | .hbm, ⟨45, _⟩ => ⟨S16384x1, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .i1⟩
  | .hbm, ⟨50, _⟩ => ⟨S16384, .i1⟩
  | .hbm, ⟨51, _⟩ => ⟨S16384x1, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .i1⟩
  | .hbm, ⟨56, _⟩ => ⟨S16384, .i1⟩
  | .hbm, ⟨57, _⟩ => ⟨S1x16384, .i1⟩
  | .hbm, ⟨58, _⟩ => ⟨S_, .f32⟩
  | .hbm, ⟨59, _⟩ => ⟨S_, .f32⟩
  | .hbm, ⟨60, _⟩ => ⟨S4x16384, .i1⟩
  | .hbm, ⟨61, _⟩ => ⟨S4x16384, .f32⟩
  | .hbm, ⟨62, _⟩ => ⟨S4x16384, .f32⟩
  | .hbm, ⟨63, _⟩ => ⟨S4x1x16384, .f32⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Tail.lean ====
abbrev S4x16384x256 : Shape := ⟨3, ![4, 16384, 256]⟩
abbrev S4x1024 : Shape := ⟨2, ![4, 1024]⟩
abbrev S256x91 : Shape := ⟨2, ![256, 91]⟩
abbrev S91 : Shape := ⟨1, ![91]⟩
abbrev S256x256 : Shape := ⟨2, ![256, 256]⟩
abbrev S256 : Shape := ⟨1, ![256]⟩
abbrev S256x4 : Shape := ⟨2, ![256, 4]⟩
abbrev S4 : Shape := ⟨1, ![4]⟩
abbrev S_ : Shape := ⟨0, ![]⟩
abbrev S256x128 : Shape := ⟨2, ![256, 128]⟩
abbrev S128 : Shape := ⟨1, ![128]⟩
abbrev S1x128 : Shape := ⟨2, ![1, 128]⟩
abbrev S1x256 : Shape := ⟨2, ![1, 256]⟩
abbrev S4x1 : Shape := ⟨2, ![4, 1]⟩
abbrev S4096 : Shape := ⟨1, ![4096]⟩
abbrev S65536x256 : Shape := ⟨2, ![65536, 256]⟩
abbrev S4096x1 : Shape := ⟨2, ![4096, 1]⟩
abbrev S1 : Shape := ⟨1, ![1]⟩
abbrev S1x1 : Shape := ⟨2, ![1, 1]⟩
abbrev S4096x256 : Shape := ⟨2, ![4096, 256]⟩
abbrev S4096x128 : Shape := ⟨2, ![4096, 128]⟩
abbrev S512x256 : Shape := ⟨2, ![512, 256]⟩
abbrev S512x1 : Shape := ⟨2, ![512, 1]⟩
abbrev S512x128 : Shape := ⟨2, ![512, 128]⟩
abbrev S4x1024x256 : Shape := ⟨3, ![4, 1024, 256]⟩
abbrev S4x900x256 : Shape := ⟨3, ![4, 900, 256]⟩
abbrev S4096x4 : Shape := ⟨2, ![4096, 4]⟩
abbrev S4x1024x4 : Shape := ⟨3, ![4, 1024, 4]⟩
abbrev S4x900x4 : Shape := ⟨3, ![4, 900, 4]⟩
abbrev S4096x91 : Shape := ⟨2, ![4096, 91]⟩
abbrev S4x1024x91 : Shape := ⟨3, ![4, 1024, 91]⟩
abbrev S4x900x91 : Shape := ⟨3, ![4, 900, 91]⟩
abbrev S4x900x351 : Shape := ⟨3, ![4, 900, 351]⟩

abbrev nBuf : Space → Nat
  | .hbm => 70
  | .vmem => 16
  | .smem => 0
  | _ => 0

abbrev bufTy : (tb : Table) → Fin (tcTables nBuf tb) → BufTy
  | .hbm, ⟨0, _⟩ => ⟨S4x16384x256, .f32⟩
  | .hbm, ⟨1, _⟩ => ⟨S4x1024, .i32⟩
  | .hbm, ⟨2, _⟩ => ⟨S256x91, .f32⟩
  | .hbm, ⟨3, _⟩ => ⟨S91, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x4, .f32⟩
  | .hbm, ⟨9, _⟩ => ⟨S4, .f32⟩
  | .hbm, ⟨10, _⟩ => ⟨S_, .i32⟩
  | .hbm, ⟨11, _⟩ => ⟨S_, .f32⟩
  | .hbm, ⟨12, _⟩ => ⟨S256x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .i32⟩
  | .hbm, ⟨18, _⟩ => ⟨S_, .f32⟩
  | .hbm, ⟨19, _⟩ => ⟨S256x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1x256, .f32⟩
  | .hbm, ⟨25, _⟩ => ⟨S1x256, .f32⟩
  | .hbm, ⟨26, _⟩ => ⟨S4, .i32⟩
  | .hbm, ⟨27, _⟩ => ⟨S4x1, .i32⟩
  | .hbm, ⟨28, _⟩ => ⟨S_, .i32⟩
  | .hbm, ⟨29, _⟩ => ⟨S4x1, .i32⟩
  | .hbm, ⟨30, _⟩ => ⟨S4x1, .i32⟩
  | .hbm, ⟨31, _⟩ => ⟨S4x1024, .i32⟩
  | .hbm, ⟨32, _⟩ => ⟨S4x1024, .i32⟩
  | .hbm, ⟨33, _⟩ => ⟨S4096, .i32⟩
  | .hbm, ⟨34, _⟩ => ⟨S65536x256, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S1x1, .i32⟩
  | .hbm, ⟨48, _⟩ => ⟨S4096x1, .i32⟩
  | .hbm, ⟨49, _⟩ => ⟨S4096x1, .i1⟩
  | .hbm, ⟨50, _⟩ => ⟨S4096x1, .i1⟩
  | .hbm, ⟨51, _⟩ => ⟨S_, .i1⟩
  | .hbm, ⟨52, _⟩ => ⟨S4096, .i1⟩
  | .hbm, ⟨53, _⟩ => ⟨S4096x256, .f32⟩
  | .hbm, ⟨54, _⟩ => ⟨S4096x256, .i1⟩
  | .hbm, ⟨55, _⟩ => ⟨S_, .f32⟩
  | .hbm, ⟨56, _⟩ => ⟨S4096x256, .f32⟩
  | .hbm, ⟨57, _⟩ => ⟨S4096x256, .f32⟩
  | .hbm, ⟨58, _⟩ => ⟨S4096x1, .i32⟩
  | .hbm, ⟨59, _⟩ => ⟨S4096x128, .f32⟩
  | .hbm, ⟨60, _⟩ => ⟨S4096x128, .f32⟩
  | .hbm, ⟨61, _⟩ => ⟨S4x1024x256, .f32⟩
  | .hbm, ⟨62, _⟩ => ⟨S4x900x256, .f32⟩
  | .hbm, ⟨63, _⟩ => ⟨S4096x4, .f32⟩
  | .hbm, ⟨64, _⟩ => ⟨S4x1024x4, .f32⟩
  | .hbm, ⟨65, _⟩ => ⟨S4x900x4, .f32⟩
  | .hbm, ⟨66, _⟩ => ⟨S4096x91, .f32⟩
  | .hbm, ⟨67, _⟩ => ⟨S4x1024x91, .f32⟩
  | .hbm, ⟨68, _⟩ => ⟨S4x900x91, .f32⟩
  | .hbm, ⟨69, _⟩ => ⟨S4x900x351, .f32⟩
  | .local _ .vmem, ⟨0, _⟩ => ⟨S512x256, .f32⟩
  | .local _ .vmem, ⟨1, _⟩ => ⟨S512x256, .f32⟩
  | .local _ .vmem, ⟨2, _⟩ => ⟨S512x1, .i32⟩
  | .local _ .vmem, ⟨3, _⟩ => ⟨S512x1, .i32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S256x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S4x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_call2_v0 : Ref sig .tc := ⟨.hbm, 18, rfl⟩
abbrev main_v3 : Ref sig .tc := ⟨.hbm, 19, rfl⟩
abbrev main_c_2 : Ref sig .tc := ⟨.hbm, 20, rfl⟩
abbrev main_call3_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call4_c : Ref sig .tc := ⟨.hbm, 35, rfl⟩
abbrev main_call4_v0 : Ref sig .tc := ⟨.hbm, 36, rfl⟩
abbrev main_call4_v1 : Ref sig .tc := ⟨.hbm, 37, rfl⟩
abbrev main_call4_c_0 : Ref sig .tc := ⟨.hbm, 38, rfl⟩
abbrev main_call4_v2 : Ref sig .tc := ⟨.hbm, 39, rfl⟩
abbrev main_call4_v3 : Ref sig .tc := ⟨.hbm, 40, rfl⟩
abbrev main_call4_v4 : Ref sig .tc := ⟨.hbm, 41, rfl⟩
abbrev main_call4_v5 : Ref sig .tc := ⟨.hbm, 42, rfl⟩
abbrev main_call4_c_1 : Ref sig .tc := ⟨.hbm, 43, rfl⟩
abbrev main_call4_c_2 : Ref sig .tc := ⟨.hbm, 44, rfl⟩
abbrev main_call4_v6 : Ref sig .tc := ⟨.hbm, 45, rfl⟩
abbrev main_call4_v7 : Ref sig .tc := ⟨.hbm, 46, rfl⟩
abbrev main_call4_v8 : Ref sig .tc := ⟨.hbm, 47, rfl⟩
abbrev main_call4_v9 : Ref sig .tc := ⟨.hbm, 48, rfl⟩
abbrev main_call4_v10 : Ref sig .tc := ⟨.hbm, 49, rfl⟩
abbrev main_call4_v11 : Ref sig .tc := ⟨.hbm, 50, rfl⟩
abbrev main_call4_c_3 : Ref sig .tc := ⟨.hbm, 51, rfl⟩
abbrev main_call4_v12 : Ref sig .tc := ⟨.hbm, 52, rfl⟩
abbrev main_call4_v13 : Ref sig .tc := ⟨.hbm, 53, rfl⟩
abbrev main_call4_v14 : Ref sig .tc := ⟨.hbm, 54, rfl⟩
abbrev main_call4_cst : Ref sig .tc := ⟨.hbm, 55, rfl⟩
abbrev main_call4_v15 : Ref sig .tc := ⟨.hbm, 56, rfl⟩
abbrev main_v16 : Ref sig .tc := ⟨.hbm, 57, rfl⟩
abbrev main_v17 : Ref sig .tc := ⟨.hbm, 58, rfl⟩
abbrev main_v18_0 : Ref sig .tc := ⟨.hbm, 59, rfl⟩
abbrev main_v18_1 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TailReferenceIdeal.lean ====
abbrev S4x16384x256 : Shape := ⟨3, ![4, 16384, 256]⟩
abbrev S4x1024 : Shape := ⟨2, ![4, 1024]⟩
abbrev S256x91 : Shape := ⟨2, ![256, 91]⟩
abbrev S91 : Shape := ⟨1, ![91]⟩
abbrev S256x256 : Shape := ⟨2, ![256, 256]⟩
abbrev S256 : Shape := ⟨1, ![256]⟩
abbrev S256x4 : Shape := ⟨2, ![256, 4]⟩
abbrev S4 : Shape := ⟨1, ![4]⟩
abbrev S4x16384x91 : Shape := ⟨3, ![4, 16384, 91]⟩
abbrev S1x1x91 : Shape := ⟨3, ![1, 1, 91]⟩
abbrev S128 : Shape := ⟨1, ![128]⟩
abbrev S_ : Shape := ⟨0, ![]⟩
abbrev S128x128 : Shape := ⟨2, ![128, 128]⟩
abbrev S16384 : Shape := ⟨1, ![16384]⟩
abbrev S16384x1 : Shape := ⟨2, ![16384, 1]⟩
abbrev S16384x4 : Shape := ⟨2, ![16384, 4]⟩
abbrev S4x900 : Shape := ⟨2, ![4, 900]⟩
abbrev S4x900x1 : Shape := ⟨3, ![4, 900, 1]⟩
abbrev S1 : Shape := ⟨1, ![1]⟩
abbrev S1x1x1 : Shape := ⟨3, ![1, 1, 1]⟩
abbrev S4x900x256 : Shape := ⟨3, ![4, 900, 256]⟩
abbrev S4x900x91 : Shape := ⟨3, ![4, 900, 91]⟩
abbrev S4x900x4 : Shape := ⟨3, ![4, 900, 4]⟩
abbrev S1x1x256 : Shape := ⟨3, ![1, 1, 256]⟩
abbrev S1x1x4 : Shape := ⟨3, ![1, 1, 4]⟩
abbrev S4x900x2 : Shape := ⟨3, ![4, 900, 2]⟩
abbrev S4x900x351 : Shape := ⟨3, ![4, 900, 351]⟩

abbrev nBuf : Space → Nat
  | .hbm => 147
  | .vmem => 0
  | .smem => 0
  | _ => 0

abbrev hbmTy0_0 (i : Nat) : BufTy := match i % 128 with
  | 0 => ⟨S4x16384x256, .f32⟩
  | 1 => ⟨S4x1024, .i32⟩
  | 2 => ⟨S256x91, .f32⟩
  | 3 => ⟨S91, .f32⟩
  | 4 => ⟨S256x256, .f32⟩
  | 5 => ⟨S256, .f32⟩
  | 6 => ⟨S256x256, .f32⟩
  | 7 => ⟨S256, .f32⟩
  | 8 => ⟨S256x4, .f32⟩
  | 9 => ⟨S4, .f32⟩
  | 10 => ⟨S4x16384x91, .f32⟩
  | 11 => ⟨S1x1x91, .f32⟩
  | 12 => ⟨S4x16384x91, .f32⟩
  | 13 => ⟨S4x16384x91, .f32⟩
  | 14 => ⟨S128, .f32⟩
  | 15 => ⟨S_, .f32⟩
  | 16 => ⟨S128, .f32⟩
  | 17 => ⟨S128, .f32⟩
  | 18 => ⟨S128, .f32⟩
  | 19 => ⟨S_, .f32⟩
  | 20 => ⟨S128, .f32⟩
  | 21 => ⟨S128, .f32⟩
  | 22 => ⟨S128x128, .f32⟩
  | 23 => ⟨S128x128, .f32⟩
  | 24 => ⟨S_, .f32⟩
  | 25 => ⟨S128x128, .f32⟩
  | 26 => ⟨S128x128, .f32⟩
  | 27 => ⟨S16384, .f32⟩
  | 28 => ⟨S_, .f32⟩
  | 29 => ⟨S128x128, .f32⟩
  | 30 => ⟨S128x128, .f32⟩
  | 31 => ⟨S16384, .f32⟩
  | 32 => ⟨S_, .f32⟩
  | 33 => ⟨S16384, .f32⟩
  | 34 => ⟨S16384x1, .f32⟩
  | 35 => ⟨S16384x1, .f32⟩
  | 36 => ⟨S16384x1, .f32⟩
  | 37 => ⟨S16384x1, .f32⟩
  | 38 => ⟨S16384x4, .f32⟩
  | 39 => ⟨S4x900, .i32⟩
  | 40 => ⟨S4x900x1, .i32⟩
  | 41 => ⟨S_, .i32⟩
  | 42 => ⟨S4x900x1, .i32⟩
  | 43 => ⟨S4x900x1, .i1⟩
  | 44 => ⟨S_, .i32⟩
  | 45 => ⟨S4x900x1, .i32⟩
  | 46 => ⟨S4x900x1, .i32⟩
  | 47 => ⟨S4x900x1, .i32⟩
  | 48 => ⟨S1, .i32⟩
  | 49 => ⟨S_, .i32⟩
  | 50 => ⟨S4x900x1, .i32⟩
  | 51 => ⟨S4x900x1, .i1⟩
  | 52 => ⟨S1x1x1, .i32⟩
  | 53 => ⟨S4x900x1, .i32⟩
  | 54 => ⟨S4x900x1, .i1⟩
  | 55 => ⟨S4x900x1, .i1⟩
  | 56 => ⟨S_, .i1⟩
  | 57 => ⟨S4x900, .i1⟩
  | 58 => ⟨S4x900x256, .f32⟩
  | 59 => ⟨S4x900x256, .i1⟩
  | 60 => ⟨S_, .f32⟩
  | 61 => ⟨S4x900x256, .f32⟩
  | 62 => ⟨S4x900x256, .f32⟩
  | 63 => ⟨S4x900x1, .i32⟩
  | 64 => ⟨S_, .i32⟩
  | 65 => ⟨S4x900x1, .i32⟩
  | 66 => ⟨S4x900x1, .i1⟩
  | 67 => ⟨S_, .i32⟩
  | 68 => ⟨S4x900x1, .i32⟩
  | 69 => ⟨S4x900x1, .i32⟩
  | 70 => ⟨S4x900x1, .i32⟩
  | 71 => ⟨S1, .i32⟩
  | 72 => ⟨S_, .i32⟩
  | 73 => ⟨S4x900x1, .i32⟩
  | 74 => ⟨S4x900x1, .i1⟩
  | 75 => ⟨S1x1x1, .i32⟩
  | 76 => ⟨S4x900x1, .i32⟩
  | 77 => ⟨S4x900x1, .i1⟩
  | 78 => ⟨S4x900x1, .i1⟩
  | 79 => ⟨S_, .i1⟩
  | 80 => ⟨S4x900, .i1⟩
  | 81 => ⟨S4x900x91, .f32⟩
  | 82 => ⟨S4x900x91, .i1⟩
  | 83 => ⟨S_, .f32⟩
  | 84 => ⟨S4x900x91, .f32⟩
  | 85 => ⟨S4x900x91, .f32⟩
  | 86 => ⟨S_, .i32⟩
  | 87 => ⟨S4x900, .i32⟩
  | 88 => ⟨S4x900, .i1⟩
  | 89 => ⟨S_, .i32⟩
  | 90 => ⟨S4x900, .i32⟩
  | 91 => ⟨S4x900, .i32⟩
  | 92 => ⟨S4x900, .i32⟩
  | 93 => ⟨S4x900x1, .i32⟩
  | 94 => ⟨S4x900x4, .f32⟩
  | 95 => ⟨S4x900x256, .f32⟩
  | 96 => ⟨S1x1x256, .f32⟩
  | 97 => ⟨S4x900x256, .f32⟩
  | 98 => ⟨S4x900x256, .f32⟩
  | 99 => ⟨S_, .f32⟩
  | 100 => ⟨S4x900x256, .f32⟩
  | 101 => ⟨S4x900x256, .f32⟩
  | 102 => ⟨S4x900x256, .f32⟩
  | 103 => ⟨S1x1x256, .f32⟩
  | 104 => ⟨S4x900x256, .f32⟩
  | 105 => ⟨S4x900x256, .f32⟩
  | 106 => ⟨S_, .f32⟩
  | 107 => ⟨S4x900x256, .f32⟩
  | 108 => ⟨S4x900x256, .f32⟩
  | 109 => ⟨S4x900x4, .f32⟩
  | 110 => ⟨S1x1x4, .f32⟩
  | 111 => ⟨S4x900x4, .f32⟩
  | 112 => ⟨S4x900x4, .f32⟩
  | 113 => ⟨S4x900x2, .f32⟩
  | 114 => ⟨S4x900x2, .f32⟩
  | 115 => ⟨S4x900x2, .f32⟩
  | 116 => ⟨S4x900x2, .f32⟩
  | 117 => ⟨S4x900x2, .f32⟩
  | 118 => ⟨S_, .f32⟩
  | 119 => ⟨S_, .f32⟩
  | 120 => ⟨S_, .f32⟩
  | 121 => ⟨S4x900x2, .f32⟩
  | 122 => ⟨S4x900x2, .f32⟩
  | 123 => ⟨S_, .f32⟩
  | 124 => ⟨S4x900x2, .f32⟩
  | 125 => ⟨S4x900x2, .f32⟩
  | 126 => ⟨S4x900x2, .f32⟩
  | 127 => ⟨S4x900x2, .f32⟩
  | _ => ⟨S4x16384x256, .f32⟩

abbrev hbmTy0_1 (i : Nat) : BufTy := match i % 128 with
  | 0 => ⟨S4x900x2, .f32⟩
  | 1 => ⟨S_, .f32⟩
  | 2 => ⟨S4x900x2, .f32⟩
  | 3 => ⟨S4x900x2, .f32⟩
  | 4 => ⟨S4x900x2, .f32⟩
  | 5 => ⟨S_, .f32⟩
  | 6 => ⟨S4x900x2, .f32⟩
  | 7 => ⟨S4x900x2, .f32⟩
  | 8 => ⟨S4x900x2, .f32⟩
  | 9 => ⟨S4x900x4, .f32⟩
  | 10 => ⟨S_, .f32⟩
  | 11 => ⟨S_, .f32⟩
  | 12 => ⟨S_, .f32⟩
  | 13 => ⟨S4x900x4, .f32⟩
  | 14 => ⟨S4x900x4, .f32⟩
  | 15 => ⟨S_, .f32⟩
  | 16 => ⟨S4x900x4, .f32⟩
  | 17 => ⟨S4x900x4, .f32⟩
  | 18 => ⟨S4x900x351, .f32⟩
  | _ => ⟨S4x16384x256, .f32⟩

abbrev hbmTy (i : Nat) : BufTy := match i / 128 with
  | 0 => hbmTy0_0 i
  | 1 => hbmTy0_1 i
  | _ => ⟨S4x16384x256, .f32⟩

abbrev bufTy : (tb : Table) → Fin (tcTables nBuf tb) → BufTy
  | .hbm, ⟨i, _⟩ => hbmTy i
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c_1 : Ref sig .tc := ⟨.hbm, 48, rfl⟩
abbrev main_call0_c_2 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_c_3 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v26 : Ref sig .tc := ⟨.hbm, 62, rfl⟩
abbrev main_v27 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_c_1 : Ref sig .tc := ⟨.hbm, 71, rfl⟩
abbrev main_call1_c_2 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_c_3 : Ref sig .tc := ⟨.hbm, 79, rfl⟩
abbrev main_call1_v11 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v28 : Ref sig .tc := ⟨.hbm, 85, rfl⟩
abbrev main_c : Ref sig .tc := ⟨.hbm, 86, rfl⟩
abbrev main_v29 : Ref sig .tc := ⟨.hbm, 87, rfl⟩
abbrev main_v30 : Ref sig .tc := ⟨.hbm, 88, rfl⟩
abbrev main_c_4 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_call2_cst : Ref sig .tc := ⟨.hbm, 99, rfl⟩
abbrev main_call2_v0 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_call3_cst : Ref sig .tc := ⟨.hbm, 106, rfl⟩
abbrev main_call3_v0 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst_5 : Ref sig .tc := ⟨.hbm, 118, rfl⟩
abbrev main_cst_6 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_7 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_cst_8 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_9 : Ref sig .tc := ⟨.hbm, 138, rfl⟩
abbrev main_cst_10 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v66 : Ref sig .tc := ⟨.hbm, 145, rfl⟩
abbrev main_v67 : Ref sig .tc := ⟨.hbm, 146, rfl⟩

abbrev nD : Nat := 1
abbrev τ : Topo := Topo.v7x

variable {F : FTy → Type} [FloatOps F]
-- ==== Proof.GatherPure.lean ====
/-
  What the gather's reference computes, and what its precondition says, element by element.
-/
module

public import proofs.«01_k».proof.Defs
public import Idealize.ShloMosaic.Lib.ReduceAll
public import Idealize.ShloMosaic.Lib.Pointwise.Index
public import Idealize.ShloMosaic.Lib.Pointwise
public import proofs.«01_k».proof.Proof.Gen.GatherReferenceIdeal
public import proofs.«01_k».proof.Proof.Gen.GatherReferenceIdeal.Run
public import proofs.«01_k».proof.Proof.Gen.Pre_in_rows

@[expose] public section

set_option maxRecDepth 16384

noncomputable section

namespace Cert.Proof.GatherPure

open Idealize.ShloMosaic Idealize.SL.Sem

/-! ## Reshapes -/

/-- A reshape read at `j` is its operand at any index of the same row-major position. -/
theorem shapeCast_at {α : Type} {s t : Shape} (x : s.Idx → α) (h : s.ShapeCasts t) (j : t.Idx) (i : s.Idx)
    (e : (s.rowMajor i).val = (t.rowMajor j).val) : shapeCast t x h j = x i :=
  congrArg x (Shape.reshapeEquiv_eq_of_rowMajor _ e)

/-! ## The precondition -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- The two signed comparisons of a row number, both true: it is below the number of rows. -/
theorem lt_of_cmp (v : BitVec 32) (e : IntOp.andi (IntOp.cmpi .sge v 0#32) (IntOp.cmpi .slt v 16384#32) = 1#1) : v.toNat < 16384 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton (⟨0, ![]⟩ : Shape).Idx := ⟨fun a b => funext fun i => i.elim0⟩

/-- The precondition says every selected row number is below 16384. -/
theorem rows_of_pre {F : FTy → Type} [FloatOps F] (x : FVec F ⟨3, ![4, 16384, 256]⟩ .f32) (i : IVec ⟨2, ![4, 1024]⟩ 32)
    (h : Cert.Pre_in_rows.fn (F := F) x i = fun _ => 1#1) (j : (⟨2, ![4, 1024]⟩ : Shape).Idx) : (i j).toNat < 16384 := by
  have e := Host.reduce_andi_all _ _ _ _ _ (congrFun h ix0) j
  exact lt_of_cmp _ e

/-! ## The reference -/

open Cert.GatherReferenceIdeal

/-- The batched row lookup of the reference. -/
abbrev gd := gather_S4x16384x256_S4x1024x1_S4x1024x256_2_1_0_0_1_2_11256

theorem siIdx_eq (j : S4x1024x256.Idx) (k) : gd.siIdx j k = ix3 (n0 := 4) (n1 := 1024) (j 0) (j 1) (0 : Fin 1) := by
  funext a
  match a with
  | 0 => rfl
  | 1 => rfl
  | 2 => exact Fin.ext (by have h : (gd.siIdx j k 2).val < 1 := (gd.siIdx j k 2).isLt; show (gd.siIdx j k 2).val = 0; omega)

/-- Its result at `(b, k, c)`, the looked-up word a row number, is the table's entry at that row. -/
theorem gather_apply {α : Type} (x : S4x16384x256.Idx → α) (idx : IVec S4x1024x1 32) (b : Fin 4) (k : Fin 1024) (c : Fin 256)
    (h : (idx (ix3 b k (0 : Fin 1))).toNat < 16384) :
    Host.gather gd x idx (ix3 b k c) = x (ix3 b (⟨(idx (ix3 b k (0 : Fin 1))).toNat, h⟩ : Fin 16384) c) := by
  unfold Host.gather
  refine congrArg x (funext fun a => Fin.ext ?_)
  match a with
  | 0 =>
    show gd.start (ix3 b k c) idx 0 + gd.batchCoord (ix3 b k c) 0 + gd.offCoord (ix3 b k c) 0 = b.val
    have h1 : gd.start (ix3 b k c) idx 0 = 0 := rfl
    have h2 : gd.batchCoord (ix3 b k c) 0 = b.val := rfl
    have h3 : gd.offCoord (ix3 b k c) 0 = 0 := rfl
    omega
  | 1 =>
    show gd.start (ix3 b k c) idx 1 + gd.batchCoord (ix3 b k c) 1 + gd.offCoord (ix3 b k c) 1 = (idx (ix3 b k (0 : Fin 1))).toNat
    have h1 : gd.start (ix3 b k c) idx 1 = min (idx (gd.siIdx (ix3 b k c) ⟨0, by decide⟩)).toInt.toNat 16383 := rfl
    have h2 : gd.batchCoord (ix3 b k c) 1 = 0 := rfl
    have h3 : gd.offCoord (ix3 b k c) 1 = 0 := rfl
    rw [h1, h2, h3, siIdx_eq]
    show min (idx (ix3 b k (0 : Fin 1))).toInt.toNat 16383 = (idx (ix3 b k (0 : Fin 1))).toNat
    rw [BitVec.toInt_eq_toNat_cond]
    split <;> omega
  | 2 =>
    show gd.start (ix3 b k c) idx 2 + gd.batchCoord (ix3 b k c) 2 + gd.offCoord (ix3 b k c) 2 = c.val
    have h1 : gd.start (ix3 b k c) idx 2 = 0 := rfl
    have h2 : gd.batchCoord (ix3 b k c) 2 = 0 := rfl
    have h3 : gd.offCoord (ix3 b k c) 2 = c.val := rfl
    omega

/-- The words the reference looks up: a negative one counted from the end, any other as it is. -/
theorem wrap_apply (v : BitVec 32) (h : v.toNat < 16384) :
    (if IntOp.cmpi .slt v 0#32 = 1#1 then v + 16384#32 else v) = v := by
  rw [if_neg]
  simp only [IntOp.cmpi, ofBool_eq_one, BitVec.slt_eq_decide, decide_eq_true_eq, BitVec.toInt_eq_toNat_cond, BitVec.toNat_ofNat, Nat.reducePow, Nat.reduceMod]
  omega
theorem inRange (v : BitVec 32) (h : v.toNat < 16384) : IntOp.andi (IntOp.cmpi .sge v 0#32) (IntOp.cmpi .sle v 16383#32) = 1#1 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod]
  omega

variable {F : FTy → Type} [FloatOps F] (x : FVec F S4x16384x256 .f32) (i : IVec S4x1024 32)

/-- The row numbers as the reference reads them, wrapped. -/
def look : IVec S4x1024x1 32 :=
  select (cmpi .slt (broadcastInDim S4x1024x1 ![0, 1] Gen.bcast_S4x1024_S4x1024x1_0_1 i) (broadcastInDim S4x1024x1 ![] Gen.bcast_S_S4x1024x1 (constantI S_ 32 0#32)))
    (addi (broadcastInDim S4x1024x1 ![0, 1] Gen.bcast_S4x1024_S4x1024x1_0_1 i) (broadcastInDim S4x1024x1 ![] Gen.bcast_S_S4x1024x1 (constantI S_ 32 16384#32)))
    (broadcastInDim S4x1024x1 ![0, 1] Gen.bcast_S4x1024_S4x1024x1_0_1 i)

/-- The reference's composed term. -/
def refTerm : FVec F S4x1024x256 .f32 :=
  select (broadcastInDim S4x1024x256 ![0, 1] Gen.bcast_S4x1024_S4x1024x256_0_1 (Host.reduce IntOp.andi
      (andi (cmpi .sge (look i) (broadcastInDim S4x1024x1 ![] Gen.bcast_S_S4x1024x1 (constantI S_ 32 0#32)))
        (cmpi .sle (look i) (broadcastInDim S4x1024x1 ![0, 1, 2] Gen.bcast_S1x1x1_S4x1024x1_0_1_2 (broadcastInDim S1x1x1 ![2] Gen.bcast_S1_S1x1x1_2 (constantI S1 32 16383#32)))))
      (constantI S_ 1 1#1) Gen.reducesTo_S4x1024x1_S4x1024_d2 Gen.h_S_))
    (Host.gather gd x (look i)) (broadcastInDim S4x1024x256 ![] Gen.bcast_S_S4x1024x256 (constant S_ .f32 0x7FC00000#32))

theorem look_apply (h : ∀ j, (i j).toNat < 16384) (j : S4x1024x1.Idx) : look i j = i (ix2 (n0 := 4) (n1 := 1024) (j 0) (j 1)) := by
  refine Eq.trans ?_ (wrap_apply _ (h _))
  have e : broadcastInDim S4x1024x1 ![0, 1] Gen.bcast_S4x1024_S4x1024x1_0_1 i j = i (ix2 (n0 := 4) (n1 := 1024) (j 0) (j 1)) :=
    congrArg i (funext fun a => match a with | 0 => rfl | 1 => rfl)
  rw [← e]
  rfl

/-- The reference's value: entry `(b, k, c)` is the table's at the row the index names. -/
theorem refTerm_apply (h : ∀ j, (i j).toNat < 16384) (b : Fin 4) (k : Fin 1024) (c : Fin 256) :
    refTerm x i (ix3 b k c) = x (ix3 b (⟨(i (ix2 b k)).toNat, h _⟩ : Fin 16384) c) := by
  unfold refTerm
  have e1 : (broadcastInDim S4x1024x256 ![0, 1] Gen.bcast_S4x1024_S4x1024x256_0_1 (Host.reduce IntOp.andi
      (andi (cmpi .sge (look i) (broadcastInDim S4x1024x1 ![] Gen.bcast_S_S4x1024x1 (constantI S_ 32 0#32)))
        (cmpi .sle (look i) (broadcastInDim S4x1024x1 ![0, 1, 2] Gen.bcast_S1x1x1_S4x1024x1_0_1_2 (broadcastInDim S1x1x1 ![2] Gen.bcast_S1_S1x1x1_2 (constantI S1 32 16383#32)))))
      (constantI S_ 1 1#1) Gen.reducesTo_S4x1024x1_S4x1024_d2 Gen.h_S_)) (ix3 b k c) = 1#1 :=
    Host.reduce_andi_one _ _ _ _ _ rfl fun j => by
      show IntOp.andi (IntOp.cmpi .sge (look i j) 0#32) (IntOp.cmpi .sle (look i j) 16383#32) = 1#1
      rw [look_apply i h j]; exact inRange _ (h _)
  have e2 : look i (ix3 b k (0 : Fin 1)) = i (ix2 b k) := look_apply i h _
  refine (if_pos e1).trans ?_
  refine (gather_apply x (look i) b k c (by rw [e2]; exact h _)).trans ?_
  exact congrArg x (by congr 1; exact Fin.ext (congrArg BitVec.toNat e2))

end Cert.Proof.GatherPure

end
-- ==== Proof.GatherIdealRun.lean ====
/-
  The run of `GatherIdeal`: thirty-two tasks, sixteen on each of two SparseCores, each fetching its 128 row numbers of the
  flattened index list, gathering those rows of the flattened table by the indirect copy, and writing them out to its
  128 rows of the result. The value is carried from the start: what a task hands back is its rows of the result at
  `gathered`, the table read at the listed rows. Stated over any float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.ValueKit.Geometry
public import Idealize.ShloMosaic.Lib.Pointwise.Index
public import Idealize.ShloMosaic.Lib.Tactic
public import proofs.«01_k».proof.Proof.Gen.GatherIdeal
public import proofs.«01_k».proof.Proof.Gen.GatherIdeal.Skeleton

@[expose] public section

set_option maxRecDepth 16384

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
theorem nSub_eq : (K (F := F)).nSub 0 = 16 := rfl
theorem nCore_eq : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The value -/

/-- The source element of the gathered result's element `j`: the listed row (in range, the remainder changes nothing),
    `j`'s own place within the row. -/
def srcIdx (n : S4096.Idx → Elt F .i32) (j : S4096x2x128.Idx) : S65536x2x128.Idx
  | 0 => ⟨(n (ix1 (j 0))).toNat % 65536, Nat.mod_lt _ (by decide)⟩
  | 1 => j 1
  | 2 => j 2
  | ⟨_ + 3, h⟩ => absurd h (Nat.not_lt.2 (Nat.le_add_left _ _))

/-- The gathered result: at each element the table's element at the listed row. -/
def gathered (t : S65536x2x128.Idx → Elt F .f32) (n : S4096.Idx → Elt F .i32) : S4096x2x128.Idx → Elt F .f32 :=
  fun j => t (srcIdx (F := F) n j)

/-! ## The buffers the call takes, the tasks' rows of them -/

abbrev tLoc (d : Dev nD) : Loc nD τ sig := (SparseCore.T d).loc main_v7
abbrev nLoc (d : Dev nD) : Loc nD τ sig := (SparseCore.T d).loc main_v6
abbrev oLoc (d : Dev nD) : Loc nD τ sig := (SparseCore.T d).loc main_v8

local notation "tV" => (Memref.whole Cert.GatherIdeal.main_v7_scv : Memref Cert.GatherIdeal.sig Kind.scVector Space.hbm Cert.GatherIdeal.S65536x2x128 EltTy.f32)
local notation "nV" => (Memref.whole Cert.GatherIdeal.main_v6_scv : Memref Cert.GatherIdeal.sig Kind.scVector Space.hbm Cert.GatherIdeal.S4096 EltTy.i32)
local notation "oV" => (Memref.whole Cert.GatherIdeal.main_v8_scv : Memref Cert.GatherIdeal.sig Kind.scVector Space.hbm Cert.GatherIdeal.S4096x2x128 EltTy.f32)
local notation "sV" => (Memref.whole Cert.GatherIdeal.cc0_scratch0 : Memref Cert.GatherIdeal.sig Kind.scVector Space.vmem Cert.GatherIdeal.S128 EltTy.i32)
local notation "rV" => (Memref.whole Cert.GatherIdeal.cc0_scratch1 : Memref Cert.GatherIdeal.sig Kind.scVector Space.vmem Cert.GatherIdeal.S128x2x128 EltTy.f32)

theorem ndiv : 32 ∣ S4096.size 0 := ⟨128, rfl⟩
theorem odiv : 32 ∣ S4096x2x128.size 0 := ⟨128, rfl⟩
/-- Task `w`'s row numbers, and its rows of the result: the `w`-th block of 128 of 32. -/
abbrev nrow (w : Fin 32) : Rect S4096 := Rect.part (s := S4096) (a₀ := 0) ndiv w
abbrev orow (w : Fin 32) : Rect S4096x2x128 := Rect.part (s := S4096x2x128) (a₀ := 0) odiv w
abbrev nRowSet (w : Fin 32) : Finset S4096.Idx := ((nV).view.slice (nrow w)).set
abbrev oRowSet (w : Fin 32) : Finset S4096x2x128.Idx := ((oV).view.slice (orow w)).set
/-- Task `w`'s share of the table, which every task reads whole. -/
abbrev tq (w : Fin 32) : PosShare TreeShare := pieceOf fullShare 32 (by decide) w

/-- Subcore `i` of SparseCore `c` is task `2 i + c`. -/
abbrev wid (c : Fin 2) (i : Fin 16) : Fin 32 := ⟨2 * i.val + c.val, by omega⟩

variable [FloatOps F]

/-- The contents of the table and of the index list when the call starts, and of the result's buffer. -/
structure Args (F : FTy → Type) where
  t : (d : Dev nD) → Buf (Elt F) (tLoc d)
  n : (d : Dev nD) → Buf (Elt F) (nLoc d)
  o : (d : Dev nD) → Buf (Elt F) (oLoc d)

variable (A : Args F)

/-- What the proof asks of the index list: every word names a row of the table. -/
def Args.InRows (A : Args F) : Prop := ∀ (d : Dev nD) (j : S4096.Idx), (A.n d j : BitVec 32).toNat < 65536

abbrev nRowPts (d : Dev nD) (w : Fin 32) : sProp 𝕄 := nLoc d ↦[nRowSet w]{fullShare} A.n d
abbrev tShPts (d : Dev nD) (w : Fin 32) : sProp 𝕄 := tLoc d ↦{tq w} A.t d
abbrev oRowPts (d : Dev nD) (w : Fin 32) (f : Buf (Elt F) (oLoc d)) : sProp 𝕄 := oLoc d ↦[oRowSet w]{fullShare} f

/-- What a task is handed: its row numbers, its share of the table, its rows of the result's buffer. -/
def goP (d : Dev nD) (w : Fin 32) : sProp 𝕄 := iprop(nRowPts A d w ∗ tShPts A d w ∗ oRowPts d w (A.o d))
/-- What it hands back: the same, its rows of the result gathered. -/
def tdP (d : Dev nD) (w : Fin 32) : sProp 𝕄 := iprop(nRowPts A d w ∗ tShPts A d w ∗ oRowPts d w (gathered (F := F) (A.t d) (A.n d)))

instance (d : Dev nD) (w : Fin 32) : BI.Storable (upEmb : UEmb _ 𝕄) (goP A d w) := by unfold goP; infer_instance
instance (d : Dev nD) (w : Fin 32) : BI.Storable (upEmb : UEmb _ 𝕄) (tdP A d w) := by unfold tdP; infer_instance

/-- The resources the call's handshakes carry: a SparseCore takes and brings back its sixteen tasks'. -/
def P : (K (F := F)).Pay (nD := nD) (Val := Elt F) (Name := ℕ) (U := UU) where
  st := fun q d c => match q with | 0 => bigSep Finset.univ fun i : Fin 16 => goP A d (wid (Fin.cast nCore_eq c) i)
  dn := fun q d c => match q with | 0 => bigSep Finset.univ fun i : Fin 16 => tdP A d (wid (Fin.cast nCore_eq c) i)
  go := fun q d c i => match q with | 0 => goP A d (wid (Fin.cast nCore_eq c) (Fin.cast nSub_eq i))
  td := fun q d c i => match q with | 0 => tdP A d (wid (Fin.cast nCore_eq c) (Fin.cast nSub_eq i))
  x := fun _ _ => iprop(emp)

instance P_storable : (P (F := F) A).IsStorable where
  st q d c := match q with
    | 0 => (inferInstance : BI.Storable (upEmb : UEmb _ 𝕄) (bigSep Finset.univ fun i : Fin 16 => goP A d (wid (Fin.cast nCore_eq c) i)))
  dn q d c := match q with
    | 0 => (inferInstance : BI.Storable (upEmb : UEmb _ 𝕄) (bigSep Finset.univ fun i : Fin 16 => tdP A d (wid (Fin.cast nCore_eq c) i)))
  go q d c i := match q with
    | 0 => (inferInstance : BI.Storable (upEmb : UEmb _ 𝕄) (goP A d (wid (Fin.cast nCore_eq c) (Fin.cast nSub_eq i))))
  td q d c i := match q with
    | 0 => (inferInstance : BI.Storable (upEmb : UEmb _ 𝕄) (tdP A d (wid (Fin.cast nCore_eq c) (Fin.cast nSub_eq i))))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The task at grid point `L`. -/
abbrev wL (L : grid0.Coords) : Fin 32 := wid (Fin.cast bound_zero (L 0)) (Fin.cast bound_one (L 1))

abbrev nrowK (L : grid0.Coords) : Rect S4096 := Rect.unit (s := S4096) (k0_off1 L) S128.size (k0_off1_inb L)
abbrev orowK (L : grid0.Coords) : Rect S4096x2x128 := Rect.unit (s := S4096x2x128) (k0_off2 L) S128x2x128.size (k0_off2_inb L)
/-- The task's row numbers, its rows of the result, and all of the table, as its body addresses them. -/
abbrev nRowK (L : grid0.Coords) : Memref sig .scVector .hbm S128 .i32 := (nV).slice (nrowK L) (fun _ => rfl)
abbrev oRowK (L : grid0.Coords) : Memref sig .scVector .hbm S128x2x128 .f32 := (oV).slice (orowK L) (fun _ => rfl)
abbrev tAllK : Memref sig .scVector .hbm S65536x2x128 .f32 :=
  (tV).slice (Rect.unit (s := S65536x2x128) ![0, 0, 0] S65536x2x128.size inb_S65536x2x128_S65536x2x128_0_0_0) (fun _ => rfl)

omit [FloatOps F] in
theorem nrowK_eq : nrowK L = nrow (wL L) := by
  unfold nrowK nrow Rect.part Rect.block
  congr 1 <;> funext a
  · rw [k0_off1_eq]
    match a with
    | 0 =>
      show 256 * (L 1).val + 128 * (L 0).val = (2 * (L 1).val + (L 0).val) * (4096 / 32)
      omega
  · match a with
    | 0 => simp [Shape.partSize]
omit [FloatOps F] in
theorem orowK_eq : orowK L = orow (wL L) := by
  unfold orowK orow Rect.part Rect.block
  congr 1 <;> funext a
  · rw [k0_off2_eq]
    match a with
    | 0 =>
      show 256 * (L 1).val + 128 * (L 0).val = (2 * (L 1).val + (L 0).val) * (4096 / 32)
      omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_nRowK : (nRowK L).view.set = nRowSet (wL L) := by
  show ((nV).view.slice (nrowK L)).set = ((nV).view.slice (nrow (wL L))).set
  exact nrowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] in
theorem pts_nRowK (f : Buf (Elt F) (nLoc d)) :
    ((nRowK L).view.loc (V d (cV L) (jV L)) ↦[(nRowK L).view.set]{fullShare} f : sProp 𝕄) = nLoc d ↦[nRowSet (wL L)]{fullShare} f := by
  rw [set_nRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
/-- The three copies' counters are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The words a task fetched are its 128 row numbers. -/
theorem fetched (fs : Buf (Elt F) ((V d (cV L) (jV L)).loc cc0_scratch0)) :
    (sV).view.read (Elt F) (View.write (Elt F) (sV).view fs ((nRowK L).view.read (Elt F) (A.n d)) Finset.univ)
      = fun x => A.n d ((nRowK L).view.emb x) := by
  rw [View.write_whole_univ]
  simp only [Memref.view_whole, View.read_whole]
  exact funext fun x => (View.read_apply _ _).trans (cast_eq _ _)

/-- They name rows of the table. -/
theorem fetched_inb (hA : A.InRows) (fs : Buf (Elt F) ((V d (cV L) (jV L)).loc cc0_scratch0)) (pay : S128.Idx → Elt F .i32)
    (hpay : pay = (nRowK L).view.read (Elt F) (A.n d)) :
    ∀ x, ((sV).view.read (Elt F) (View.write (Elt F) (sV).view fs pay Finset.univ) x).toNat < S65536x2x128.size gathers_S65536x2x128_S128x2x128.axis := by
  subst hpay; intro x
  rw [fetched]
  exact hA d _

omit [FloatOps F] in
theorem emb_nRowK (x : S128.Idx) : (((nRowK L).view.emb x : S4096.Idx) 0).val = k0_off1 L 0 + (x 0).val :=
  ValueKit.view_emb_slice_whole_unit_val main_v6_scv (k0_off1 L) S128.size (k0_off1_inb L) x 0
omit [FloatOps F] in
theorem emb_oRowK (x : S128x2x128.Idx) (a : Fin 3) : (((oRowK L).view.emb x : S4096x2x128.Idx) a).val = k0_off2 L a + (x a).val :=
  ValueKit.view_emb_slice_whole_unit_val main_v8_scv (k0_off2 L) S128x2x128.size (k0_off2_inb L) x a

/-- The gather's payload at an element of the task's block is the gathered result there. -/
theorem payload_eq (hA : A.InRows) (idx : S128.Idx → Elt F .i32) (hidx : idx = fun x => A.n d ((nRowK L).view.emb x))
    (hn : S128.numel = S128x2x128.size gathers_S65536x2x128_S128x2x128.axis')
    (hin : ∀ x, (idx x).toNat < S65536x2x128.size gathers_S65536x2x128_S128x2x128.axis) (x : S128x2x128.Idx) :
    SparseCore.gatherPayload (F := F) (e := .f32) gathers_S65536x2x128_S128x2x128 ((tAllK).view.read (Elt F) (A.t d))
        (SparseCore.rows (F := F) idx hn hin) x
      = gathered (F := F) (A.t d) (A.n d) ((oRowK L).view.emb x) := by
  subst hidx
  unfold SparseCore.gatherPayload gathered
  refine ((View.read_apply _ _).trans (cast_eq _ _)).trans (congrArg (A.t d) (funext fun a => Fin.ext ?_))
  rw [show (((tAllK).view.emb (gathers_S65536x2x128_S128x2x128.idx (SparseCore.rows (F := F) (fun x => A.n d ((nRowK L).view.emb x)) hn hin) x) : S65536x2x128.Idx) a).val
      = (![0, 0, 0] : Fin 3 → ℕ) a + (gathers_S65536x2x128_S128x2x128.idx (SparseCore.rows (F := F) (fun x => A.n d ((nRowK L).view.emb x)) hn hin) x a).val from
    ValueKit.view_emb_slice_whole_unit_val main_v7_scv ![0, 0, 0] S65536x2x128.size inb_S65536x2x128_S65536x2x128_0_0_0 _ a]
  match a with
  | 0 =>
    have e1 := congrArg Fin.val (gathers_S65536x2x128_S128x2x128.idx_axis (SparseCore.rows (F := F) (fun x => A.n d ((nRowK L).view.emb x)) hn hin) x)
    refine (Nat.zero_add _).trans (e1.trans ?_)
    show (A.n d ((nRowK L).view.emb _) : BitVec 32).toNat = (A.n d _ : BitVec 32).toNat % 65536
    rw [Nat.mod_eq_of_lt (hA d _)]
    refine congrArg (fun k => (A.n d k : BitVec 32).toNat) (funext fun b => Fin.ext ?_)
    match b with
    | 0 =>
      rw [emb_nRowK]
      refine Eq.trans ?_ (emb_oRowK L x 0).symm
      rw [k0_off1_eq, k0_off2_eq]
      exact congrArg (_ + ·) ((Shape.rowMajor_val_one (d := ![128]) _).symm.trans (congrArg Fin.val (Equiv.apply_symm_apply _ _)))
  | 1 =>
    refine (Nat.zero_add _).trans ((gathers_S65536x2x128_S128x2x128.idx_of_ne _ x 1 (by decide)).trans ?_)
    refine Eq.trans ?_ (emb_oRowK L x 1).symm
    rw [k0_off2_eq]; exact (Nat.zero_add _).symm
  | 2 =>
    refine (Nat.zero_add _).trans ((gathers_S65536x2x128_S128x2x128.idx_of_ne _ x 2 (by decide)).trans ?_)
    refine Eq.trans ?_ (emb_oRowK L x 2).symm
    rw [k0_off2_eq]; exact (Nat.zero_add _).symm

/-- So a block that reads as that payload is, on the task's own elements, the gathered result. -/
theorem written_eq (g : Buf (Elt F) (oLoc d)) (w : S128x2x128.Idx → Elt F .f32) (hg : (oRowK L).view.read (Elt F) g = w)
    (hw : ∀ x, w x = gathered (F := F) (A.t d) (A.n d) ((oRowK L).view.emb x)) :
    ((oRowK L).view.loc (V d (cV L) (jV L)) ↦[(oRowK L).view.set]{fullShare} g : sProp 𝕄)
      = (oRowK L).view.loc (V d (cV L) (jV L)) ↦[(oRowK L).view.set]{fullShare} gathered (F := F) (A.t d) (A.n d) := by
  refine pointsTo_congr fun i hi => ?_
  obtain ⟨x, -, rfl⟩ := Finset.mem_map.mp hi
  exact ((View.read_apply (v := (oRowK L).view) g x).trans (cast_eq _ _)).symm.trans ((congrFun hg x).trans (hw x))

set_option maxHeartbeats 4000000 in
/-- The task at grid point `L` of device `d`: the fetch of its row numbers and its wait, the indirect gather and its
    wait, the write-out and its wait. It hands back its rows of the result gathered. -/
theorem tile_body (hF : (K (F := F)).Facts) (hA : A.InRows) (O : CellTallies nD τ sig (HIx 1)) (W : Waits sig (HIx 1)) (hO : ∀ g, O g none = 0) :
    iprop(levAts (K (F := F)).L (K (F := F)).lev ∗ emp ∗ goP A d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) nV (Memref.isWhole_whole _) oV (Memref.isWhole_whole _)
            sV (Memref.isWhole_whole _) rV (Memref.isWhole_whole _) cc0_scratch2 cc0_scoped0 cc0_scoped1)
          fun _ => iprop(tdP A d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel goP tdP
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_nRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := tq (wL L)) (f := A.t d) (S := Finset.univ) (Finset.subset_univ (tAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 A d L) Finset.univ : sProp 𝕄)
      = (sV).view.loc (V d (cV L) (jV L)) ↦[(sV).view.set]{fullShare} View.write (Elt F) (sV).view fs (tile_body.sl.dma0 A d L) Finset.univ
      by rw [hss])) $$ Hs'
  have hN : ∀ h : S65536x2x128.Gathers 0 S128x2x128, ∑ j, ((rV).slice (S128x2x128.rowRect h.axis' j) (S128x2x128.stride_rowRect h.axis' j)).view.dmaCredit
      = (rV).view.dmaCredit := by decide +kernel
  have hin := fetched_inb A d L hA fs (tile_body.sl.dma0 A d L) rfl
  iapply (SparseCore.wp_indirectGatherLocal countersEmb 𝒱₀ (V d (cV L) (jV L)) none (hg := gathers_S65536x2x128_S128x2x128) (default : HIx 1)
      (rV).view.dmaCredit (hN _) (by decide) hin) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemA, HO⟩
  ihave Hx' := (pointsTo_split_subset (q := tq (wL L)) (f := A.t d) (S := Finset.univ) (Finset.subset_univ (tAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_nRowK (F := F) d L _)); iexact Hi'
    isplitl [Hx']; · iexact Hx'
    iapply (Entails.of_eq (pts_oRowK (F := F) d L _))
    ihave Ho2 := (Entails.of_eq (written_eq A d L _ _ (View.read_writes_whole _ _ _) ?_)) $$ Ho'
    · intro x
      refine (congrFun (View.read_write_univ (v := (rV).view) fr _) x).trans ?_
      exact payload_eq A d L hA _ (fetched A d L fs) rfl hin x
    iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          tV (Memref.isWhole_whole _) nV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {B C E : sProp 𝕄} {O : CellTallies nD τ sig (HIx 1)} {W : Waits sig (HIx 1)} {q : Fin 1} :
    iprop(B ∗ C ∗ E ∗ ∃ W', ⌜∀ p ∈ W', p ∈ W ∨ p.2 = none⌝ ∗ owes thr O W')
      ⊢ iprop(B ∗ C ∗ E ∗ ∃ W', ⌜∀ p ∈ W', p ∈ W ∨ p.2 = none ∨ p.2 = some q⌝ ∗ owes thr O W') := by
  iintro ⟨HB, HC, HE, %W', %hW', HO⟩
  isplitl [HB]; · iexact HB
  isplitl [HC]; · iexact HC
  isplitl [HE]; · iexact HE
  iexists W'; isplitr
  · ipureintro; exact fun p hp => (hW' p hp).imp_right Or.inl
  · iexact HO

/-- Every task runs as the call's handshakes ask. -/
theorem tileObl (hF : (K (F := F)).Facts) (hA : A.InRows) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF hA O W hO).trans (wp_mono frame _ _ fun _ => obl_post)

end Tile

/-! ## The arrays split into the tasks' rows and shares, and join again -/

omit [FloatOps F] in
theorem nRowSet_eq (w : Fin 32) : nRowSet w = (nrow w).set := View.set_slice_whole (main_v6_scv : Ref sig .scVector) (nrow w)
omit [FloatOps F] in
theorem oRowSet_eq (w : Fin 32) : oRowSet w = (orow w).set := View.set_slice_whole (main_v8_scv : Ref sig .scVector) (orow w)
omit [FloatOps F] in
theorem nrows_disjoint : ∀ i ∈ (Finset.univ : Finset (Fin 32)), ∀ j ∈ (Finset.univ : Finset (Fin 32)), i ≠ j → Disjoint (nRowSet i) (nRowSet j) :=
  fun i _ j _ h => by rw [nRowSet_eq, nRowSet_eq]; exact Rect.part_disjoint ndiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem nrows_cover : (Finset.univ : Finset (Fin 32)).biUnion nRowSet = Finset.univ :=
  (Finset.biUnion_congr rfl fun i _ => nRowSet_eq i).trans (Rect.biUnion_part ndiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem nPts_rows (d : Dev nD) (f : Buf (Elt F) (nLoc d)) :
    (nLoc d ↦{fullShare} f : sProp 𝕄) = bigSep Finset.univ fun w : Fin 32 => nLoc d ↦[nRowSet w]{fullShare} f := by
  rw [← pointsTo_biUnion Finset.univ (ℓ := nLoc d) nRowSet nrows_disjoint, nrows_cover]; try rfl
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit [FloatOps F] in
theorem tPts_shares (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

omit [FloatOps F] in
/-- Over the thirty-two tasks is over the SparseCores and, on each, its subcores. -/
theorem bigSep_tasks (Φ : Fin 32 → sProp 𝕄) :
    bigSep Finset.univ Φ = bigSep Finset.univ fun c : Fin 2 => bigSep Finset.univ fun i : Fin 16 => Φ (wid c i) := by
  rw [bigSep_univ_equiv ((Equiv.prodComm (Fin 2) (Fin 16)).trans (finProdFinEquiv (m := 16) (n := 2))) Φ, bigSep_univ_prod]
  refine bigSep_congr fun c _ => bigSep_congr fun i _ => congrArg Φ (Fin.ext ?_)
  show c.val + 2 * i.val = 2 * i.val + c.val
  omega

/-- All the tasks' operands are the three arrays whole, -/
theorem goP_all (d : Dev nD) : (bigSep Finset.univ fun w : Fin 32 => goP A d w)
    = iprop((nLoc d ↦{fullShare} A.n d) ∗ (tLoc d ↦{fullShare} A.t d) ∗ (oLoc d ↦{fullShare} A.o d) : sProp 𝕄) := by
  unfold goP nRowPts tShPts oRowPts
  rw [bigSep_sep', bigSep_sep', ← nPts_rows, ← tPts_shares, ← oPts_rows]
/-- and all they bring back the same, the result gathered. -/
theorem tdP_all (d : Dev nD) : (bigSep Finset.univ fun w : Fin 32 => tdP A d w)
    = iprop((nLoc d ↦{fullShare} A.n d) ∗ (tLoc d ↦{fullShare} A.t d) ∗ (oLoc d ↦{fullShare} gathered (F := F) (A.t d) (A.n d)) : sProp 𝕄) := by
  unfold tdP nRowPts tShPts oRowPts
  rw [bigSep_sep', bigSep_sep', ← nPts_rows, ← tPts_shares, ← oPts_rows]

theorem st0_eq (d : Dev nD) : (bigSep Finset.univ fun c : Fin ((K (F := F)).nCore 0) => (P A).st 0 d c)
    = iprop((nLoc d ↦{fullShare} A.n d) ∗ (tLoc d ↦{fullShare} A.t d) ∗ (oLoc d ↦{fullShare} A.o d) : sProp 𝕄) :=
  (bigSep_tasks (goP A d)).symm.trans (goP_all A d)
theorem dn0_eq (d : Dev nD) : (bigSep Finset.univ fun c : Fin ((K (F := F)).nCore 0) => (P A).dn 0 d c)
    = iprop((nLoc d ↦{fullShare} A.n d) ∗ (tLoc d ↦{fullShare} A.t d) ∗ (oLoc d ↦{fullShare} gathered (F := F) (A.t d) (A.n d)) : sProp 𝕄) :=
  (bigSep_tasks (tdP A d)).symm.trans (tdP_all A d)

/-- A SparseCore's operands are its tasks' operands, its results theirs. -/
theorem vecSplit : (K (F := F)).VecSplit' (P A) 0 := by
  intro d c
  show (bigSep Finset.univ fun i : Fin 16 => goP A d (wid (Fin.cast nCore_eq c) i)) ⊢ |={Set.univ}=> iprop(
      (bigSep Finset.univ fun i : Fin 16 => goP A d (wid (Fin.cast nCore_eq c) i))
      ∗ ((bigSep Finset.univ fun i : Fin 16 => tdP A d (wid (Fin.cast nCore_eq c) i))
          -∗ (bigSep Finset.univ fun i : Fin 16 => tdP A d (wid (Fin.cast nCore_eq c) i))))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

/-! ## @main on the TensorCore -/

/-- The host operations before the call, and the one after it. -/
def opsBefore : List (HloOp τ sig (Elt F)) :=
  [StableHlo.nullary main_v0 (iotaInDim S4 32 0),
    StableHlo.unary main_v0 main_v1 (broadcastInDim S4x1 ![0] bcast_S4_S4x1_0 : (⟨S4, .i32⟩ : BufTy).Contents (Elt F) → (⟨S4x1, .i32⟩ : BufTy).Contents (Elt F)),
    StableHlo.nullary main_c (constantI S_ 32 16384#32),
    StableHlo.unary main_c main_v2 (broadcastInDim S4x1 ![] bcast_S_S4x1 : (⟨S_, .i32⟩ : BufTy).Contents (Elt F) → (⟨S4x1, .i32⟩ : BufTy).Contents (Elt F)),
    StableHlo.binary main_v1 main_v2 main_v3 (muli : (⟨S4x1, .i32⟩ : BufTy).Contents (Elt F) → (⟨S4x1, .i32⟩ : BufTy).Contents (Elt F) → (⟨S4x1, .i32⟩ : BufTy).Contents (Elt F)),
    StableHlo.unary main_v3 main_v4 (broadcastInDim S4x1024 ![0, 1] bcast_S4x1_S4x1024_0_1 : (⟨S4x1, .i32⟩ : BufTy).Contents (Elt F) → (⟨S4x1024, .i32⟩ : BufTy).Contents (Elt F)),
    StableHlo.binary main_arg1 main_v4 main_v5 (addi : (⟨S4x1024, .i32⟩ : BufTy).Contents (Elt F) → (⟨S4x1024, .i32⟩ : BufTy).Contents (Elt F) → (⟨S4x1024, .i32⟩ : BufTy).Contents (Elt F)),
    StableHlo.reshape main_v5 main_v6 (rfl : (.i32 : EltTy) = .i32) shapeCasts_S4x1024_S4096,
    StableHlo.reshape main_arg0 main_v7 (rfl : (.f32 : EltTy) = .f32) shapeCasts_S4x16384x256_S65536x2x128]
def opsAfter : List (HloOp τ sig (Elt F)) :=
  [StableHlo.reshape main_v8 main_v9 (rfl : (.f32 : EltTy) = .f32) shapeCasts_S4096x2x128_S4x1024x256]

theorem main_eq (d : Dev nD) : main (F := F) d = (StableHlo.seq opsBefore >>= fun _ => (sc (F := F)).run d 0 >>= fun _ => StableHlo.seq opsAfter) := rfl

theorem before_sub : ∀ op ∈ opsBefore (F := F), op.bufs ⊆ Pipeline.ucRefs τ sig := fun op h =>
  Pipeline.sub_ucRefs op (List.forall_iff_forall_mem.1 (show (opsBefore (F := F)).Forall fun op => op.bufs ⊆ StableHlo.tcRefs τ sig by
    simp only [opsBefore, List.Forall, StableHlo.nullary_bufs_sub, StableHlo.unary_bufs_sub, StableHlo.binary_bufs_sub, StableHlo.reshape_bufs_sub, and_self]) op h)
theorem before_fresh : ∀ op ∈ opsBefore (F := F), op.fresh = ∅ := by
  intro _ h; (repeat (cases h with | head => rfl | tail _ h => ?_)); exact nomatch h
theorem after_sub : ∀ op ∈ opsAfter (F := F), op.bufs ⊆ Pipeline.ucRefs τ sig := fun op h =>
  Pipeline.sub_ucRefs op (List.forall_iff_forall_mem.1 (show (opsAfter (F := F)).Forall fun op => op.bufs ⊆ StableHlo.tcRefs τ sig by
    simp only [opsAfter, List.Forall, StableHlo.reshape_bufs_sub]) op h)
theorem after_fresh : ∀ op ∈ opsAfter (F := F), op.fresh = ∅ := by
  intro _ h; (repeat (cases h with | head => rfl | tail _ h => ?_)); exact nomatch h

variable (m : (ℓ : Loc nD τ sig) → Buf (Elt F) ℓ) (ρ : Dev nD → PrngReg)

/-- The contents when the call starts: the launch's, the host operations' results over them. -/
def Vb (d : Dev nD) : Valuation τ sig (Elt F) := StableHlo.after opsBefore (StableHlo.launchContents m d)

/-- The call's arrays then. -/
def argsOf : Args F where
  t d := Vb m d (Proc.devRef .tc main_v7)
  n d := Vb m d (Proc.devRef .tc main_v6)
  o d := Vb m d (Proc.devRef .tc main_v8)

/-- After the call: the result's buffer gathered. -/
def Vc (d : Dev nD) : Valuation τ sig (Elt F) :=
  Function.update (Vb m d) (Proc.devRef .tc main_v8) (gathered (F := F) ((argsOf m).t d) ((argsOf m).n d))

/-- At the end of @main. -/
def Ve (d : Dev nD) : Valuation τ sig (Elt F) := StableHlo.after opsAfter (Vc m d)

abbrev callRefs : Finset (DevRef τ sig) := {Proc.devRef .tc main_v6, Proc.devRef .tc main_v7, Proc.devRef .tc main_v8}

omit [FloatOps F] in
theorem callRefs_sub : callRefs ⊆ Pipeline.ucRefs τ sig := by decide

omit [FloatOps F] in
theorem held_call (d : Dev nD) (W : Valuation τ sig (Elt F)) :
    (StableHlo.held (SparseCore.T d) callRefs W : sProp 𝕄)
      = iprop((nLoc d ↦{fullShare} W (Proc.devRef .tc main_v6)) ∗ (tLoc d ↦{fullShare} W (Proc.devRef .tc main_v7))
          ∗ (oLoc d ↦{fullShare} W (Proc.devRef .tc main_v8))) := by
  unfold StableHlo.held callRefs
  rw [SparseCore.bigSep_insert' (by decide), SparseCore.bigSep_insert' (by decide), bigSep_singleton]

abbrev FIN (d : Dev nD) : sProp 𝕄 := StableHlo.held (SparseCore.T d) (Pipeline.ucRefs τ sig) (Ve m d)

/-- @main on device `d`'s TensorCore: the host operations, the call, the last reshape. -/
theorem hmain (κ : GSem nD τ sig → ℕ) (d : Dev nD) :
    iprop((K (F := F)).ctx EH (P (argsOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (StableHlo.launchContents m d)
    from Pipeline.unscopedBufs_held d (StableHlo.launchContents m d), main_eq]
  iintro ⟨#Hctx, Hst, ⟨Hb, Hheld, Hts, -⟩, -⟩
  iapply (StableHlo.wp_seq 𝒱 none Set.univ d (Pipeline.ucRefs τ sig) _ opsBefore before_sub before_fresh (StableHlo.launchContents m d)) $$ [Hb Hheld]
  · isplitl [Hb] <;> iassumption
  iintro ⟨Hb, Hheld⟩
  ihave Hheld := (Entails.of_eq (show (StableHlo.held (d.tc : Thread nD τ) (Pipeline.ucRefs τ sig) (StableHlo.after opsBefore (StableHlo.launchContents m d)) : sProp 𝕄)
      = StableHlo.held (SparseCore.T d) (Pipeline.ucRefs τ sig) (Vb m d) from rfl)) $$ Hheld
  ihave Hh := (Entails.of_eq (StableHlo.held_sub_split (c := SparseCore.T d) callRefs_sub (Vb m d))) $$ Hheld
  icases Hh with ⟨Hcall, Hrest⟩
  ihave Hcall' := (Entails.of_eq (held_call d (Vb m d))) $$ Hcall
  rw [wp_bind]
  iapply ((K (F := F)).wp_run (D (F := F)) 𝒱 (EH := EH) (P := P (argsOf m)) κ d 0) $$ [Hst Hcall' Hrest Hb Hts]
  isplitr; · iexact Hctx
  isplitl [Hst]; · iexact Hst
  isplitl [Hcall']
  · rw [st0_eq]; iexact Hcall'
  iintro ⟨Hst, Hdn⟩
  ihave Hdn' := (Entails.of_eq (dn0_eq (argsOf m) d)) $$ Hdn
  ihave Hcall := (Entails.of_eq (show iprop((nLoc d ↦{fullShare} (argsOf m).n d) ∗ (tLoc d ↦{fullShare} (argsOf m).t d)
      ∗ (oLoc d ↦{fullShare} gathered (F := F) ((argsOf m).t d) ((argsOf m).n d))) = (StableHlo.held (SparseCore.T d) callRefs (Vc m d) : sProp 𝕄) by
    rw [held_call, Vc, Function.update_self, Function.update_of_ne (by decide), Function.update_of_ne (by decide)]; rfl)) $$ Hdn'
  ihave Hrest' := (Entails.of_eq (StableHlo.held_congr (c := SparseCore.T d) (S := Pipeline.ucRefs τ sig \ callRefs) (V := Vb m d) (V' := Vc m d) fun b hb =>
    (Function.update_of_ne (fun e => (Finset.mem_sdiff.mp hb).2 (by subst e; decide)) _ _).symm)) $$ Hrest
  ihave Hheld := (Entails.of_eq (StableHlo.held_sub_split (c := SparseCore.T d) callRefs_sub (Vc m d)).symm) $$ [Hcall Hrest']
  · isplitl [Hcall] <;> iassumption
  rw [show StableHlo.seq (nD := nD) (opsAfter (F := F)) = (StableHlo.seq opsAfter >>= fun u => Pure.pure u) from (bind_pure _).symm]
  iapply (StableHlo.wp_seq 𝒱 none Set.univ d (Pipeline.ucRefs τ sig) _ opsAfter after_sub after_fresh (Vc m d)) $$ [Hb Hheld]
  · isplitl [Hb] <;> iassumption
  iintro ⟨Hb, Hheld⟩
  rw [wp_pure]; imodintro
  isplitl [Hst]; · iexact Hst
  isplitr [Hb Hts]; · iexact Hheld
  isplitl [Hb] <;> iassumption

/-- Device `d`'s arrays at the end. -/
def fq (d : Dev nD) (s' : Phys nD τ sig (Elt F)) : Prop := ∀ b ∈ Pipeline.ucRefs τ sig, s'.mem.mem (d, b) = Ve m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (c := d) (qs := fun _ => fullShare) (F := Ve m d) (Pipeline.ucRefs τ sig)) $$ [HSI H]
  · isplitl [HSI]; · iexact HSI
    iexact H
  ipureintro; exact h

def QC : PUnit × MemSt nD τ sig (Elt F) → Prop :=
  fun r => (∀ c : Dev nD, ∀ b ∈ Pipeline.ucRefs τ sig, r.2.mem (c, b) = Ve m c b) ∧ r.2.sem = fun _ => 0

/-- Where the index list names rows of the table, every run ends with each array of @main at its value `Ve`, and every
    counter at zero. -/
theorem run_main [∀ e, Nonempty (Elt F e)] (hA : (argsOf m).InRows) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (argsOf m)) (A := ∅) scFacts v₀
    (fun q hq => match q with | 0 => nomatch hq)
    (fun q _ => match q with | 0 => tileObl (argsOf m) scFacts hA)
    (fun q _ => match q with | 0 => SparseCore.Cfg.VecSplit.of_plain (vecSplit (argsOf m)))
    m ρ main (fun _ => iprop(emp)) (FIN m) (u₀ (F := F)) (sep_elim_left.trans (hu₀ (argsOf m))) (hmain m ρ) (fq m) (hfin m) (QC m) (fun _ h hz => ⟨h, hz⟩)

end Cert.Proof.GatherIdeal

end
-- ==== Proof.GatherIdealEnds.lean ====
/-
  What the gather kernel's run leaves, read at its arguments: the index list of the call, its arguments unchanged, and its
  result entry by entry.
-/
module

public import proofs.«01_k».proof.Proof.GatherIdealRun
public import proofs.«01_k».proof.Proof.GatherPure
public import Idealize.ShloMosaic.Lib.Pointwise.Reshape

@[expose] public section

set_option maxRecDepth 16384

noncomputable section

namespace Cert.Proof.GatherIdeal

open Cert.GatherIdeal Cert.GatherIdeal.Gen
open Idealize.ShloMosaic Idealize.ShloMosaic.TcCoe Idealize.SL.Sem GatherPure

variable {F : FTy → Type} [FloatOps F] (m : (ℓ : Loc nD τ sig) → Buf (Elt F) ℓ) (d : Dev nD)

/-- The table of the launch. -/
abbrev tab : FVec F S4x16384x256 .f32 := m (d.tc.loc main_arg0)
/-- The row numbers of the launch. -/
abbrev idxs : IVec S4x1024 32 := m (d.tc.loc main_arg1)

/-- The index list the call reads, of the row numbers: each plus its image's offset in the flattened table. -/
theorem n_eq : (argsOf m).n d = shapeCast S4096 (addi (idxs m d)
    (broadcastInDim S4x1024 ![0, 1] bcast_S4x1_S4x1024_0_1 (muli (broadcastInDim S4x1 ![0] bcast_S4_S4x1_0 (iotaInDim S4 32 0))
      (broadcastInDim S4x1 ![] bcast_S_S4x1 (constantI S_ 32 16384#32))))) shapeCasts_S4x1024_S4096 := by
  unfold argsOf Vb opsBefore
  after_results <;> rfl
/-- The table the call reads: the memory, its two outer axes as one, a row in two halves. -/
theorem t_eq : (argsOf m).t d = shapeCast S65536x2x128 (tab m d) shapeCasts_S4x16384x256_S65536x2x128 := by
  unfold argsOf Vb opsBefore
  after_results <;> rfl
/-- The memory ends unchanged. -/
theorem arg0_eq : Ve m d (Proc.devRef .tc main_arg0) = m (d.tc.loc main_arg0) := by
  unfold Ve opsAfter Vc Vb opsBefore
  after_results <;> rfl
/-- The row numbers end unchanged. -/
theorem arg1_eq : Ve m d (Proc.devRef .tc main_arg1) = m (d.tc.loc main_arg1) := by
  unfold Ve opsAfter Vc Vb opsBefore
  after_results <;> rfl
/-- The result: the rows the call gathered, in the result's shape. -/
theorem v9_eq : Ve m d (Proc.devRef .tc main_v9) = shapeCast S4x1024x256 (gathered (F := F) ((argsOf m).t d) ((argsOf m).n d)) shapeCasts_S4096x2x128_S4x1024x256 := by
  unfold Ve opsAfter Vc
  after_results <;> rfl

/-- Entry `b * 1024 + k` of the index list: query `k` of image `b`'s row number, counted in the flattened table. -/
theorem n_apply (h : ∀ j, (idxs m d j).toNat < 16384) (b : Fin 4) (k : Fin 1024) (q : S4096.Idx) (hq : (q 0).val = b.val * 1024 + k.val) :
    ((argsOf m).n d q : BitVec 32).toNat = b.val * 16384 + (idxs m d (ix2 b k)).toNat := by
  rw [n_eq, shapeCast_at _ _ q (ix2 (n0 := 4) (n1 := 1024) b k)
    (by rw [Shape.rowMajor_val_one, Shape.rowMajor_val_two]; show b.val * 1024 + k.val = (q 0).val; omega)]
  show (idxs m d (ix2 b k) + BitVec.ofNat 32 b.val * 16384#32).toNat = _
  have := h (ix2 b k)
  have := b.isLt
  rw [BitVec.toNat_add, BitVec.toNat_mul, BitVec.toNat_ofNat, BitVec.toNat_ofNat]
  simp only [Nat.reducePow]
  omega

/-- Every entry of the index list names a row of the flattened table. -/
theorem inRows (h : ∀ d j, (idxs m d j).toNat < 16384) : (argsOf m).InRows := fun d j => by
  have hj : (j 0).val < 4096 := (j 0).isLt
  have := n_apply m d (h d) (⟨(j 0).val / 1024, by omega⟩ : Fin 4) (⟨(j 0).val % 1024, by omega⟩ : Fin 1024) j
    (by show (j 0).val = (j 0).val / 1024 * 1024 + (j 0).val % 1024; omega)
  have := h d (ix2 (⟨(j 0).val / 1024, by omega⟩ : Fin 4) (⟨(j 0).val % 1024, by omega⟩ : Fin 1024))
  have : (⟨(j 0).val / 1024, by omega⟩ : Fin 4).val = (j 0).val / 1024 := rfl
  omega

/-- The result's entry `(b, k, c)`: entry `c` of the row of image `b` the index `(b, k)` names. -/
theorem v9_apply (h : ∀ j, (idxs m d j).toNat < 16384) (b : Fin 4) (k : Fin 1024) (c : Fin 256) :
    (Ve m d (Proc.devRef .tc main_v9) : FVec F S4x1024x256 .f32) (ix3 b k c)
      = tab m d (ix3 b (⟨(idxs m d (ix2 b k)).toNat, h _⟩ : Fin 16384) c) := by
  have hb := b.isLt; have hk := k.isLt; have hc := c.isLt
  rw [v9_eq, shapeCast_at _ _ (ix3 b k c)
    (ix3 (n0 := 4096) (n1 := 2) (n2 := 128) ⟨b.val * 1024 + k.val, by omega⟩ ⟨c.val / 128, by omega⟩ ⟨c.val % 128, by omega⟩)
    (by rw [Shape.rowMajor_val_three, Shape.rowMajor_val_three]
        show ((b.val * 1024 + k.val) * 2 + c.val / 128) * 128 + c.val % 128 = (b.val * 1024 + k.val) * 256 + c.val
        omega)]
  unfold gathered
  rw [t_eq]
  refine shapeCast_at _ _ _ _ ?_
  rw [Shape.rowMajor_val_three, Shape.rowMajor_val_three]
  have e := n_apply m d h b k (ix1 (n0 := 4096) ⟨b.val * 1024 + k.val, by omega⟩) rfl
  have hi := h (ix2 b k)
  show (b.val * 16384 + (idxs m d (ix2 b k)).toNat) * 256 + c.val
    = ((((argsOf m).n d (ix1 (n0 := 4096) ⟨b.val * 1024 + k.val, by omega⟩) : BitVec 32).toNat % 65536) * 2 + c.val / 128) * 128 + c.val % 128
  rw [e]
  omega

/-- The kernel runs from row numbers that are in the table: the arguments end unchanged, every semaphore ends at zero, and
    the result holds the rows the row numbers name. -/
theorem run_ends [∀ e, Nonempty (Elt F e)] (ρ : Dev nD → PrngReg) (h : ∀ d j, (idxs m d j).toNat < 16384) :
    θ_run (Cert.GatherIdeal.defs (F := F)) (Cert.GatherIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v9) = Ve m c (Proc.devRef .tc main_v9)) ∧ r.2.sem = fun _ => 0 :=
  (θ_run _ _ _).mono (fun _ hr => ⟨fun c => ⟨(hr.1 c (Proc.devRef .tc main_arg0) (by decide)).trans (arg0_eq m c), (hr.1 c (Proc.devRef .tc main_arg1) (by decide)).trans (arg1_eq m c),
    hr.1 c (Proc.devRef .tc main_v9) (by decide)⟩, hr.2⟩) (run_main m ρ (inRows m h))

end Cert.Proof.GatherIdeal
end
-- ==== Proof.GatherClaim.lean ====
/-
  The claims about the gather: its frames, its reference's frame, and that kernel and reference end with equal results.
-/
module

public import proofs.«01_k».proof.Proof.GatherEnds
public import proofs.«01_k».proof.Proof.GatherIdealEnds
public import proofs.«01_k».proof.Proof.GatherPure
public import Idealize.ShloMosaic.Lib.Quiescent

@[expose] public section

set_option maxRecDepth 16384

noncomputable section

namespace Cert.Proof.GatherClaim

open Idealize.ShloMosaic Idealize.SL.Sem

attribute [local instance] Cert.Gather.Gen.facts Cert.GatherIdeal.Gen.facts Cert.GatherReferenceIdeal.Gen.facts Cert.Pre_in_rows.Gen.facts

/-- The kernel runs, from row numbers in the table, keeps its arguments and ends with every semaphore at zero. -/
theorem kernel : Cert.quiescent_Gather := fun m g h =>
  (θ_run _ _ _).mono (fun _ hr => ⟨fun c => ⟨(hr.1 c).1, (hr.1 c).2.1⟩, hr.2⟩)
    (Gather.run_ends m g fun d j => GatherPure.rows_of_pre _ _ (h d) j)

/-- So does the kernel read with exact operations. -/
theorem kernelIdeal : Cert.quiescent_GatherIdeal := fun m g h =>
  (θ_run _ _ _).mono (fun _ hr => ⟨fun c => ⟨(hr.1 c).1, (hr.1 c).2.1⟩, hr.2⟩)
    (GatherIdeal.run_ends m g fun d j => GatherPure.rows_of_pre _ _ (h d) j)

/-- The reference runs, keeps its arguments and ends with every semaphore at zero: it has none. -/
theorem reference : Cert.quiescent_GatherReferenceIdeal := fun m g _ =>
  (θ_run _ _ _).mono (fun _ hr => ⟨fun c => (hr c).2, sem_eq_zero_of_no_sems (by decide) _⟩)
    (Cert.GatherReferenceIdeal.Value.run m g)

/-- The same, said of row numbers in the table. -/
theorem reference_in_rows : Cert.quiescent_GatherReferenceIdeal_pre_in_rows := fun m g _ => reference m g trivial

/-- From memories that agree on the arguments, the row numbers in the table, kernel and reference end with equal results. -/
theorem algebraic : Cert.algebraic_GatherIdeal_GatherReferenceIdeal := fun m g m' g' h hm => by
  have hi : ∀ d j, (GatherIdeal.idxs m d j).toNat < 16384 := fun d j => GatherPure.rows_of_pre _ _ (h d) j
  refine ⟨fun c => GatherIdeal.Ve m c (Proc.devRef .tc Cert.GatherIdeal.main_v9), ?_, ?_⟩
  · exact (θ_run _ _ _).mono (fun _ hr c => ⟨(hr.1 c).2.2, (hr.1 c).1, (hr.1 c).2.1⟩) (GatherIdeal.run_ends m g hi)
  · refine (θ_run _ _ _).mono (fun _ hr c => ⟨(hr c).1.trans ?_, (hr c).2⟩) (Cert.GatherReferenceIdeal.Value.run m' g')
    have h0 : m' ((c.tc : Thread _ _).loc Cert.GatherReferenceIdeal.main_arg0) = GatherIdeal.tab m c := (hm c).1
    have h1 : m' ((c.tc : Thread _ _).loc Cert.GatherReferenceIdeal.main_arg1) = GatherIdeal.idxs m c := (hm c).2
    rw [h0, h1]
    refine Eq.trans (b := GatherPure.refTerm (GatherIdeal.tab m c) (GatherIdeal.idxs m c)) rfl ?_
    funext j
    rw [show j = ix3 (n0 := 4) (n1 := 1024) (n2 := 256) (j 0) (j 1) (j 2) from funext fun a => match a with | 0 => rfl | 1 => rfl | 2 => rfl]
    exact (GatherPure.refTerm_apply _ _ (hi c) _ _ _).trans (GatherIdeal.v9_apply m c (hi c) _ _ _).symm

end Cert.Proof.GatherClaim

end
-- ==== Proof.Consts.lean ====
/-
  The float constants of the kernels and their references, as extended reals.
-/
module

public import Idealize.ShloMosaic.PureOps.Ideal

@[expose] public section

noncomputable section

namespace Cert.Proof.Consts

open Idealize.ShloMosaic

/-- One half. -/
theorem half : Ideal.ofBits .f32 0x3F000000#32 = ((1 / 2 : ℝ) : EReal) := by
  simp [Ideal.ofBits, Ideal.ieee, -EReal.coe_mul]; norm_num
/-- The width and height of the feature map. -/
theorem width : Ideal.ofBits .f32 0x43000000#32 = ((128 : ℝ) : EReal) := by
  simp [Ideal.ofBits, Ideal.ieee, -EReal.coe_mul]; norm_num
/-- Its reciprocal. -/
theorem invWidth : Ideal.ofBits .f32 0x3C000000#32 = ((1 / 128 : ℝ) : EReal) := by
  simp [Ideal.ofBits, Ideal.ieee, -EReal.coe_mul]; norm_num
/-- The lower margin, near 0.01. -/
theorem lo : Ideal.ofBits .f32 0x3C23D70A#32 = ((10737418 / 1073741824 : ℝ) : EReal) := by
  simp [Ideal.ofBits, Ideal.ieee, -EReal.coe_mul]; norm_num
/-- The upper margin, near 0.99. -/
theorem hi : Ideal.ofBits .f32 0x3F7D70A4#32 = ((16609444 / 16777216 : ℝ) : EReal) := by
  simp [Ideal.ofBits, Ideal.ieee, -EReal.coe_mul]; norm_num
/-- −∞. -/
theorem negInf : Ideal.ofBits .f32 0xFF800000#32 = (⊥ : EReal) := by
  simp [Ideal.ofBits, Ideal.ieee, -EReal.coe_mul]

end Cert.Proof.Consts

end
-- ==== Proof.Words.lean ====
/-
  The words a token number's column and row are taken from by a mask and a shift.
-/
module

public import Idealize.ShloMosaic.Lib.Pointwise

@[expose] public section

namespace Cert.Proof.Words

open Idealize.ShloMosaic

/-- The mask 127 of a word that holds `n` leaves `n` modulo 128. -/
theorem andi127 (n : Nat) (hn : n < 2 ^ 31) : IntOp.andi (BitVec.ofNat 32 n) 127#32 = BitVec.ofNat 32 (n % 128) := by
  apply BitVec.eq_of_toNat_eq
  show ((BitVec.ofNat 32 n) &&& 127#32).toNat = _
  rw [BitVec.toNat_and, BitVec.toNat_ofNat, BitVec.toNat_ofNat, BitVec.toNat_ofNat, Nat.mod_eq_of_lt (by omega : n < 2^32), Nat.mod_eq_of_lt (by omega : n % 128 < 2^32)]
  exact Nat.and_two_pow_sub_one_eq_mod n 7

/-- The shift by 7 of a word that holds `n` is `n` divided by 128. -/
theorem shr7 (n : Nat) (hn : n < 2 ^ 31) : IntOp.shrsi .vector (BitVec.ofNat 32 n) 7#32 = BitVec.ofNat 32 (n / 128) := by
  show (BitVec.ofNat 32 n).sshiftRight 7 = _
  rw [BitVec.sshiftRight_eq_of_msb_false (by rw [BitVec.msb_eq_decide, BitVec.toNat_ofNat, Nat.mod_eq_of_lt (by omega : n < 2^32)]; simp; omega)]
  apply BitVec.eq_of_toNat_eq
  rw [BitVec.toNat_ushiftRight, BitVec.toNat_ofNat, BitVec.toNat_ofNat, Nat.mod_eq_of_lt (by omega : n < 2^32), Nat.mod_eq_of_lt (by omega : n / 128 < 2^32), Nat.shiftRight_eq_div_pow]

end Cert.Proof.Words
-- ==== Proof.ScoresPure.lean ====
/-
  The border mask and the class padding of the scores kernel, as facts about numbers: the integer test of a token's
  coordinates against the reference's test of its anchor's, and a maximum over padded classes against the plain one.
-/
module

public import Idealize.ShloMosaic.Lib.Pointwise
public import Idealize.ShloMosaic.Lib.StableHlo.Predicate
public import proofs.«01_k».proof.Proof.Consts
public import proofs.«01_k».proof.Proof.Words
public import Idealize.ShloMosaic.PureOps.Ideal

@[expose] public section

set_option maxRecDepth 16384

noncomputable section

namespace Cert.Proof.ScoresPure

open Idealize.ShloMosaic Consts Words

/-! ## The mask -/

theorem andi_ofBool (p q : Bool) : IntOp.andi (BitVec.ofBool p) (BitVec.ofBool q) = BitVec.ofBool (p && q) := by
  cases p <;> cases q <;> decide

/-- An anchor's coordinate, of a token's `k`. -/
abbrev coord (k : Nat) : EReal :=
  Ideal.div (FloatOps.sitofp (F := Ideal) .f32 (BitVec.ofNat 32 k) + Ideal.ofBits .f32 0x3F000000#32) (Ideal.ofBits .f32 0x43000000#32)

theorem coord_eq (k : Nat) (h : k < 128) : coord k = ((((k : ℝ) + 1 / 2) / 128 : ℝ) : EReal) := by
  have e : (BitVec.ofNat 32 k).toInt = (k : Int) := by
    rw [BitVec.toInt_eq_toNat_cond, BitVec.toNat_ofNat, Nat.mod_eq_of_lt (by omega), if_pos (by omega)]
  have es : FloatOps.sitofp (F := Ideal) .f32 (BitVec.ofNat 32 k) = ((k : ℝ) : EReal) := by
    show ((((BitVec.ofNat 32 k).toInt : ℤ) : ℝ) : EReal) = _
    rw [e]; norm_cast
  unfold coord
  rw [half, width, Ideal.div_coe (by norm_num), es, ← EReal.coe_add, ← EReal.coe_mul]
  congr 1
  ring

/-- A coordinate is inside the border exactly where its anchor is inside the margins. -/
theorem lo_iff (k : Nat) (h : k < 128) : Ideal.ofBits .f32 0x3C23D70A#32 < coord k ↔ 0 < k := by
  rw [coord_eq k h, lo, EReal.coe_lt_coe_iff]
  constructor
  · intro hk
    by_contra h0
    have : k = 0 := by omega
    subst this
    norm_num at hk
  · intro hk
    have : (1 : ℝ) ≤ k := by exact_mod_cast hk
    linarith
theorem hi_iff (k : Nat) (h : k < 128) : coord k < Ideal.ofBits .f32 0x3F7D70A4#32 ↔ k < 127 := by
  rw [coord_eq k h, hi, EReal.coe_lt_coe_iff]
  constructor
  · intro hk
    by_contra h0
    have : k = 127 := by omega
    subst this
    norm_num at hk
  · intro hk
    have : (k : ℝ) ≤ 126 := by exact_mod_cast (by omega : k ≤ 126)
    linarith

/-- The integer test of a token's column and row, as one bit: the token is off the border. -/
def inside (n : Nat) : Bool := decide (0 < n % 128) && decide (n % 128 < 127) && decide (0 < n / 128) && decide (n / 128 < 127)

/-- The kernel's mask at token `n`. -/
theorem mask_kernel (w : BitVec 32) (n : Nat) (hn : n < 16384) (hw : w = BitVec.ofNat 32 n) :
    IntOp.andi (IntOp.andi (IntOp.andi (IntOp.cmpi .sgt (IntOp.andi w 127#32) 0#32) (IntOp.cmpi .slt (IntOp.andi w 127#32) 127#32))
        (IntOp.cmpi .sgt (IntOp.andi (IntOp.shrsi .vector w 7#32) 127#32) 0#32))
      (IntOp.cmpi .slt (IntOp.andi (IntOp.shrsi .vector w 7#32) 127#32) 127#32) = BitVec.ofBool (inside n) := by
  have key : ∀ k < 128, IntOp.cmpi .sgt (BitVec.ofNat 32 k) 0#32 = BitVec.ofBool (decide (0 < k))
      ∧ IntOp.cmpi .slt (BitVec.ofNat 32 k) 127#32 = BitVec.ofBool (decide (k < 127)) := by decide +kernel
  have hx := key (n % 128) (by omega)
  have hy := key (n / 128) (by omega)
  rw [hw, andi127 n (by omega), shr7 n (by omega), andi127 (n / 128) (by omega), Nat.mod_eq_of_lt (by omega : n / 128 < 128),
    hx.1, hx.2, hy.1, hy.2]
  simp only [andi_ofBool, inside]

/-- The reference's mask at token `n`. -/
theorem mask_reference (n : Nat) (hn : n < 16384) :
    IntOp.andi (IntOp.andi (IntOp.andi (BitVec.ofBool (decide (Ideal.ofBits .f32 0x3C23D70A#32 < coord (n % 128))))
          (BitVec.ofBool (decide (coord (n % 128) < Ideal.ofBits .f32 0x3F7D70A4#32))))
        (BitVec.ofBool (decide (Ideal.ofBits .f32 0x3C23D70A#32 < coord (n / 128)))))
      (BitVec.ofBool (decide (coord (n / 128) < Ideal.ofBits .f32 0x3F7D70A4#32))) = BitVec.ofBool (inside n) := by
  simp only [andi_ofBool, inside, lo_iff _ (Nat.mod_lt n (by decide : 0 < 128)), hi_iff _ (Nat.mod_lt n (by decide : 0 < 128)),
    lo_iff (n / 128) (by omega), hi_iff (n / 128) (by omega)]

/-! ## The classes -/

/-- A maximum from −∞ over 128 classes of which those from the 91st on are −∞ is the maximum over the 91. -/
theorem fold_pad (f : Fin 128 → EReal) (g : Fin 91 → EReal) (hlt : ∀ c : Fin 91, f (c.castLE (by decide)) = g c)
    (hge : ∀ c : Fin 128, 91 ≤ c.val → f c = ⊥) :
    Finset.univ.fold max (⊥ : EReal) f = Finset.univ.fold max ⊥ g := by
  refine le_antisymm ?_ ?_
  · refine (Finset.fold_max_le _).2 ⟨bot_le, fun c _ => ?_⟩
    by_cases hc : c.val < 91
    · exact (Finset.le_fold_max _).2 (.inr ⟨⟨c.val, hc⟩, Finset.mem_univ _, le_of_eq (hlt ⟨c.val, hc⟩)⟩)
    · rw [hge c (by omega)]; exact bot_le
  · refine (Finset.fold_max_le _).2 ⟨bot_le, fun c _ => ?_⟩
    exact (Finset.le_fold_max _).2 (.inr ⟨c.castLE (by decide), Finset.mem_univ _, le_of_eq (hlt c).symm⟩)

end Cert.Proof.ScoresPure

end
-- ==== Proof.ScoresValue.lean ====
/-
  The scores call's result array after its run, entry by entry, and the reference's.
-/
module

public import proofs.«01_k».proof.Defs
public import proofs.«01_k».proof.Proof.Gen.ScoresIdeal.Value
public import proofs.«01_k».proof.Proof.Gen.ScoresReferenceIdeal.Run
public import Idealize.ShloMosaic.Lib.Pointwise
public import Idealize.ShloMosaic.Lib.Tactic.CleanTypes
public import Idealize.ShloMosaic.Lib.StableHlo.Run
public import Idealize.ShloMosaic.Lib.Pipeline.ValueKit
public import proofs.«01_k».proof.Proof.ScoresPure

@[expose] public section

set_option maxRecDepth 16384

noncomputable section

namespace Cert.Proof.Scores

open Idealize.ShloMosaic Idealize.ShloMosaic.TcCoe Idealize.SL.Sem
open ScoresPure Consts

section Kernel

open Cert.ScoresIdeal Cert.ScoresIdeal.Gen

/-- Token `n` of image `b`: where it is off the border the greatest of its 91 class logits, else −∞. -/
def score (x : FVec Ideal S4x16384x256 .f32) (w : FVec Ideal S256x91 .f32) (v : FVec Ideal S91 .f32) (b : Fin 4) (n : Fin 16384) : EReal :=
  Scalar.select (BitVec.ofBool (inside n.val))
    (Finset.univ.fold max (⊥ : EReal) fun c : Fin 91 => ∑ k : Fin 256, x (ix3 b n k) * w (ix2 k c) + v (ix1 c)) ⊥

/-- The whole result array. -/
abbrev scores (x : FVec Ideal S4x16384x256 .f32) (w : FVec Ideal S256x91 .f32) (v : FVec Ideal S91 .f32) : FVec Ideal S4x1x16384 .f32 :=
  fun i => score x w v (i 0) (i 2)

variable (m : (ℓ : Loc nD τ sig) → Buf (Elt Ideal) ℓ) (c : Dev nD)

abbrev mem : FVec Ideal S4x16384x256 .f32 := m (c.tc.loc main_arg0)
abbrev wcls : FVec Ideal S256x91 .f32 := m (c.tc.loc main_arg1)
abbrev bcls : FVec Ideal S91 .f32 := m (c.tc.loc main_arg2)

/-- The class matrix the call reads, padded with zero columns. -/
theorem V_w : (V m c main_v0 : FVec Ideal S256x128 .f32) = pad S256x128 ![0, 0] ![0, 37] ![0, 0] (wcls m c) (sitofp .f32 (constantI S_ 32 0#32)) pads_S256x91_S256x128_000_0370 h_S_ := by
  unfold V hostOps0 hostOps0_1 hostOps0_2
  simp only [List.flatten_cons, List.flatten_nil, List.cons_append, List.nil_append, StableHlo.TRef.unary, StableHlo.TRef.binary, StableHlo.TRef.toBuf, StableHlo.TRef.ofBuf, cast_eq]
  after_results <;> rfl
/-- The class bias the call reads, padded with −∞. -/
theorem V_b : (V m c main_v3 : FVec Ideal S1x128 .f32) = shapeCast S1x128 (concatenate S128 0 [⟨S91, bcls m c⟩, ⟨S37, broadcastInDim S37 ![] bcast_S_S37 (constant S_ .f32 0xFF800000#32)⟩] concatenates_S91_S37_S128_d0) shapeCasts_S128_S1x128 := by
  unfold V hostOps0 hostOps0_1 hostOps0_2
  simp only [List.flatten_cons, List.flatten_nil, List.cons_append, List.nil_append, StableHlo.TRef.unary, StableHlo.TRef.binary, StableHlo.TRef.toBuf, StableHlo.TRef.ofBuf, cast_eq]
  after_results <;> rfl

theorem V_w_apply (k : Fin 256) (q : Fin 128) : (V m c main_v0 : FVec Ideal S256x128 .f32) (ix2 k q) = if h : q.val < 91 then wcls m c (ix2 k ⟨q.val, h⟩) else 0 := by
  rw [V_w]
  pointwise
  simp [FloatOps.sitofp]
theorem V_b_apply (q : Fin 128) : (V m c main_v3 : FVec Ideal S1x128 .f32) (ix2 (0 : Fin 1) q) = if h : q.val < 91 then bcls m c (ix1 ⟨q.val, h⟩) else ⊥ := by
  rw [V_b]
  pointwise
  rw [negInf]

/-- The block each window reads at point `t` of the 4 by 8 grid: image `t / 8`, group of tokens `t % 8`. -/
theorem idx0 : ∀ t : Fin grid0.N, win0_0.index t 0 = t.val / 8 ∧ win0_0.index t 1 = t.val % 8 ∧ win0_0.index t 2 = 0
    ∧ win0_1.index t 0 = 0 ∧ win0_1.index t 1 = 0 ∧ win0_2.index t 0 = 0 ∧ win0_2.index t 1 = 0
    ∧ win0_3.index t 0 = t.val / 8 ∧ win0_3.index t 1 = 0 ∧ win0_3.index t 2 = t.val % 8 ∧ (grid0.coords t 1).val = t.val % 8 := by decide +kernel

theorem lt_N (t : Fin cfg0.N) : t.val < 32 := t.isLt
def img (t : Fin cfg0.N) : Fin 4 := ⟨t.val / 8, by have := lt_N t; omega⟩
def tok (t : Fin cfg0.N) (l : Fin 2048) : Fin 16384 := ⟨t.val % 8 * 2048 + l.val, by have := l.isLt; omega⟩

theorem blk0 (t : Fin cfg0.N) (l : Fin 2048) (k : Fin 256) : (iblk m c 0 t : FVec Ideal S1x2048x256 .f32) (ix3 (0 : Fin 1) l k) = mem m c (ix3 (img t) (tok t l) k) := by
  show V m c main_arg0 (((cfg0.win 0).blk t).view.emb _) = _
  rw [V_main_arg0]
  congr 1
  funext a
  obtain ⟨h0, h1, h2, -⟩ := idx0 t
  refine Fin.ext ((Pipeline.Window.rect_emb_val win0_0 t _ a).trans ?_)
  match a with
  | ⟨0, _⟩ => show win0_0.index t 0 * 1 + 0 = t.val / 8; omega
  | ⟨1, _⟩ => show win0_0.index t 1 * 2048 + l.val = t.val % 8 * 2048 + l.val; omega
  | ⟨2, _⟩ => show win0_0.index t 2 * 256 + k.val = k.val; omega
theorem blk1 (t : Fin cfg0.N) (k : Fin 256) (q : Fin 128) : (iblk m c 1 t : FVec Ideal S256x128 .f32) (ix2 k q) = (V m c main_v0 : FVec Ideal S256x128 .f32) (ix2 k q) := by
  show V m c main_v0 (((cfg0.win 1).blk t).view.emb _) = _
  congr 1
  funext a
  obtain ⟨-, -, -, h0, h1, -⟩ := idx0 t
  refine Fin.ext ((Pipeline.Window.rect_emb_val win0_1 t _ a).trans ?_)
  match a with
  | ⟨0, _⟩ => show win0_1.index t 0 * 256 + k.val = k.val; omega
  | ⟨1, _⟩ => show win0_1.index t 1 * 128 + q.val = q.val; omega
theorem blk2 (t : Fin cfg0.N) (q : Fin 128) : (iblk m c 2 t : FVec Ideal S1x128 .f32) (ix2 (0 : Fin 1) q) = (V m c main_v3 : FVec Ideal S1x128 .f32) (ix2 (0 : Fin 1) q) := by
  show V m c main_v3 (((cfg0.win 2).blk t).view.emb _) = _
  congr 1
  funext a
  obtain ⟨-, -, -, -, -, h0, h1, -⟩ := idx0 t
  refine Fin.ext ((Pipeline.Window.rect_emb_val win0_2 t _ a).trans ?_)
  match a with
  | ⟨0, _⟩ => show win0_2.index t 0 * 1 + 0 = 0; omega
  | ⟨1, _⟩ => show win0_2.index t 1 * 128 + q.val = q.val; omega

/-- The token's number as the body computes it: the group's number by 2048, and the place in the group. -/
theorem word_eq (t : Fin cfg0.N) (l : Fin 2048) :
    IntOp.addi (Scalar.muli (BitVec.ofNat 32 (grid0.coords t 1).val) 2048#32) (BitVec.ofNat 32 l.val) = BitVec.ofNat 32 (tok t l).val := by
  rw [(idx0 t).2.2.2.2.2.2.2.2.2.2]
  show BitVec.ofNat 32 (t.val % 8) * BitVec.ofNat 32 2048 + BitVec.ofNat 32 l.val = BitVec.ofNat 32 (t.val % 8 * 2048 + l.val)
  rw [BitVec.ofNat_add, BitVec.ofNat_mul]

/-- What the body leaves of a token at its point. -/
theorem point (t : Fin cfg0.N) (l : Fin 2048) :
    (k0_pay1 (grid0.coords t) (iblk m c 0 t) (iblk m c 1 t) (iblk m c 2 t) : FVec Ideal S1x1x2048 .f32) (ix3 (0 : Fin 1) (0 : Fin 1) l)
      = score (mem m c) (wcls m c) (bcls m c) (img t) (tok t l) := by
  pointwise [k0_pay1]
  rw [word_eq, negInf, mask_kernel _ _ (tok t l).isLt rfl]
  unfold score
  congr 1
  refine fold_pad _ _ (fun q => ?_) (fun q hq => ?_)
  · rw [blk2, V_b_apply, dif_pos (show (q.castLE _ : Fin 128).val < 91 from q.isLt)]
    congr 1
    refine Finset.sum_congr rfl fun k _ => ?_
    rw [blk0, blk1, V_w_apply, dif_pos (show (q.castLE _ : Fin 128).val < 91 from q.isLt)]
    rfl
  · rw [blk2, V_b_apply, dif_neg (by omega)]
    simp

theorem hz3 : (![0, 0, 0] : Fin 3 → Nat) = fun _ => 0 := funext fun a => by fin_cases a <;> rfl
theorem hz2 : (![0, 0] : Fin 2 → Nat) = fun _ => 0 := funext fun a => by fin_cases a <;> rfl

theorem out_eq (t : Fin cfg0.N) (y : S1x1x2048.Idx) :
    (out0_3 (grid0.coords t) (iblk m c 0 t) (iblk m c 1 t) (iblk m c 2 t) : FVec Ideal S1x1x2048 .f32) y
      = score (mem m c) (wcls m c) (bcls m c) (img t) (tok t (y 2)) := by
  unfold out0_3
  rw [View.canon_unit_zero hz3, View.ld_unit_zero hz3, View.ld_unit_zero hz2, View.ld_unit_zero hz2]
  rw [show y = ix3 (0 : Fin 1) (0 : Fin 1) (y 2) from funext fun a => by
    match a with
    | ⟨0, _⟩ => exact Subsingleton.elim (α := Fin 1) _ _
    | ⟨1, _⟩ => exact Subsingleton.elim (α := Fin 1) _ _
    | ⟨2, _⟩ => rfl]
  exact point m c t (y 2)

/-- The index of the array at which point `t` writes entry `y` of its block. -/
theorem emb_out (t : Fin cfg0.N) (y : S1x1x2048.Idx) : (((cfg0.win 3).blk t).view.emb y : S4x1x16384.Idx) 0 = img t ∧ (((cfg0.win 3).blk t).view.emb y : S4x1x16384.Idx) 2 = tok t (y 2) := by
  obtain ⟨-, -, -, -, -, -, -, h0, h1, h2, -⟩ := idx0 t
  refine ⟨Fin.ext ?_, Fin.ext ?_⟩
  · refine (Pipeline.Window.rect_emb_val win0_3 t y 0).trans ?_
    show win0_3.index t 0 * 1 + (y 0).val = t.val / 8
    have : (y 0).val < 1 := (y 0).isLt
    omega
  · refine (Pipeline.Window.rect_emb_val win0_3 t y 2).trans ?_
    show win0_3.index t 2 * 2048 + (y 2).val = t.val % 8 * 2048 + (y 2).val
    omega

/-- What point `t` writes back is its block of the scores. -/
theorem flushed_eq (t : Fin cfg0.N) : (dats m 0 c).flushed 3 t = ((cfg0.win 3).blk t).view.read (Elt Ideal) (scores (mem m c) (wcls m c) (bcls m c)) := by
  rw [Value.flushed3]
  funext y
  refine (out_eq m c t y).trans ?_
  show _ = score _ _ _ ((((cfg0.win 3).blk t).view.emb y : S4x1x16384.Idx) 0) ((((cfg0.win 3).blk t).view.emb y : S4x1x16384.Idx) 2)
  rw [(emb_out t y).1, (emb_out t y).2]

theorem covers : (cfg0.win 3).Covers := by decide +kernel

theorem cover (i : S4x1x16384.Idx) : ∃ t : Fin cfg0.N, (cfg0.win 3).flush t = true ∧ i ∈ ((cfg0.win 3).blk t).view.set :=
  covers.cover _ (Memref.isWhole_whole _) i

/-- The call's result array after the run: every token's score. -/
theorem final : (dats m 0 c).arrAt 3 cfg0.N = scores (mem m c) (wcls m c) (bcls m c) :=
  (dats m 0 c).arrAt_eq_of_cover 3 (scores (mem m c) (wcls m c) (bcls m c)) (fun t _ => flushed_eq m c t) cover

end Kernel

section Reference

open Cert.ScoresReferenceIdeal Cert.ScoresReferenceIdeal.Gen

variable (m : (ℓ : Loc nD τ sig) → Buf (Elt Ideal) ℓ) (c : Dev nD)

/-- The reference's result array: the same. -/
theorem reference_final : (Value.res_main_v46 m c : FVec Ideal S4x1x16384 .f32)
    = scores (m (c.tc.loc main_arg0)) (m (c.tc.loc main_arg1)) (m (c.tc.loc main_arg2)) := by
  funext i
  rw [show i = ix3 (i 0) (0 : Fin 1) (i 2) from funext fun a => by
    match a with
    | ⟨0, _⟩ => rfl
    | ⟨1, _⟩ => exact Subsingleton.elim (α := Fin 1) _ _
    | ⟨2, _⟩ => rfl]
  unfold Value.res_main_v46
  clean_types
  pointwise
  rw [mask_reference _ (i 2).isLt]
  show Scalar.select _ _ (Ideal.ofBits .f32 0xFF800000#32) = _
  rw [negInf]
  rfl

end Reference

end Cert.Proof.Scores
end
-- ==== Proof.ScoresClaim.lean ====
/-
  The claims about the scores call: its frames, its reference's frame, and that call and reference end with equal results.
-/
module

public import proofs.«01_k».proof.Defs
public import proofs.«01_k».proof.Proof.Gen.Scores.Frame
public import proofs.«01_k».proof.Proof.Gen.ScoresIdeal.Frame
public import proofs.«01_k».proof.Proof.ScoresValue
public import Idealize.ShloMosaic.Lib.Quiescent

@[expose] public section

set_option maxRecDepth 16384

noncomputable section

namespace Cert.Proof.ScoresClaim

open Idealize.ShloMosaic Idealize.SL.Sem

attribute [local instance] Cert.Scores.Gen.facts Cert.ScoresIdeal.Gen.facts Cert.ScoresReferenceIdeal.Gen.facts

/-- The call runs, keeps its arguments and ends with every semaphore at zero. -/
theorem kernel : Cert.quiescent_Scores := fun m g _ => Cert.Scores.Gen.frame m g

/-- So does the call read with exact operations. -/
theorem kernelIdeal : Cert.quiescent_ScoresIdeal := fun m g _ => Cert.ScoresIdeal.Gen.frame m g

/-- The reference runs, keeps its arguments and ends with every semaphore at zero: it has none. -/
theorem reference : Cert.quiescent_ScoresReferenceIdeal := fun m g _ =>
  (θ_run _ _ _).mono (fun _ hr => ⟨fun c => (hr c).2, sem_eq_zero_of_no_sems (by decide) _⟩)
    (Cert.ScoresReferenceIdeal.Value.run m g)

/-- From memories that agree on the arguments, call and reference end with equal scores. -/
theorem algebraic : Cert.algebraic_ScoresIdeal_ScoresReferenceIdeal := fun m g m' g' _ hm => by
  refine ⟨fun c => Scores.scores (Scores.mem m c) (Scores.wcls m c) (Scores.bcls m c), ?_, ?_⟩
  · exact (θ_run _ _ _).mono (fun _ hr c => ⟨(hr c).1.trans (Scores.final m c), (hr c).2⟩) (Cert.ScoresIdeal.Value.run_blocks m g)
  · refine (θ_run _ _ _).mono (fun _ hr c => ⟨(hr c).1.trans ?_, (hr c).2⟩) (Cert.ScoresReferenceIdeal.Value.run m' g')
    refine (Scores.reference_final m' c).trans ?_
    rw [(hm c).1, (hm c).2.1, (hm c).2.2]

end Cert.Proof.ScoresClaim

end
-- ==== Proof.TailReference.lean ====
/-
  The tail's reference: what its result array holds, entry by entry.
-/
module

public import proofs.«01_k».proof.Proof.Gen.TailReferenceIdeal.Run
public import Idealize.ShloMosaic.Lib.Pointwise
public import Idealize.ShloMosaic.Lib.Tactic.CleanTypes
public import proofs.«01_k».proof.Proof.GatherPure
public import proofs.«01_k».proof.Proof.ScoresPure

@[expose] public section

set_option maxRecDepth 16384

noncomputable section

namespace Cert.Proof.TailReference

open Idealize.ShloMosaic Idealize.ShloMosaic.TcCoe Idealize.SL.Sem
open Cert.TailReferenceIdeal Cert.TailReferenceIdeal.Gen

variable (x : FVec Ideal S4x16384x256 .f32) (n : IVec S4x1024 32) (wc : FVec Ideal S256x91 .f32) (bc : FVec Ideal S91 .f32)
  (w1 : FVec Ideal S256x256 .f32) (b1 : FVec Ideal S256 .f32) (w2 : FVec Ideal S256x256 .f32) (b2 : FVec Ideal S256 .f32)
  (w3 : FVec Ideal S256x4 .f32) (b3 : FVec Ideal S4 .f32)

/-! ## The reference's term, in pieces -/

/-- The selected row numbers. -/
abbrev sel : IVec S4x900 32 := extractStridedSlice S4x900 ![0, 0] n slices_S4x1024_S4x900_0_0
/-- A negative row number counted from the end, any other as it is. -/
def look : IVec S4x900x1 32 :=
  select (cmpi .slt (broadcastInDim S4x900x1 ![0, 1] bcast_S4x900_S4x900x1_0_1 (sel n)) (broadcastInDim S4x900x1 ![] bcast_S_S4x900x1 (constantI S_ 32 0#32)))
    (addi (broadcastInDim S4x900x1 ![0, 1] bcast_S4x900_S4x900x1_0_1 (sel n)) (broadcastInDim S4x900x1 ![] bcast_S_S4x900x1 (constantI S_ 32 16384#32)))
    (broadcastInDim S4x900x1 ![0, 1] bcast_S4x900_S4x900x1_0_1 (sel n))
/-- The same, as the anchors' lookup computes it. -/
def lookA : IVec S4x900x1 32 :=
  broadcastInDim S4x900x1 ![0, 1] bcast_S4x900_S4x900x1_0_1
    (select (cmpi .slt (sel n) (broadcastInDim S4x900 ![] bcast_S_S4x900 (constantI S_ 32 0#32)))
      (addi (sel n) (broadcastInDim S4x900 ![] bcast_S_S4x900 (constantI S_ 32 16384#32))) (sel n))
/-- Which row numbers are in range. -/
def ok : IVec S4x900 1 :=
  Host.reduce IntOp.andi (andi (cmpi .sge (look n) (broadcastInDim S4x900x1 ![] bcast_S_S4x900x1 (constantI S_ 32 0#32)))
    (cmpi .sle (look n) (broadcastInDim S4x900x1 ![0, 1, 2] bcast_S1x1x1_S4x900x1_0_1_2 (broadcastInDim S1x1x1 ![2] bcast_S1_S1x1x1_2 (constantI S1 32 16383#32)))))
    (constantI S_ 1 1#1) reducesTo_S4x900x1_S4x900_d2 h_S_
abbrev gx := gather_S4x16384x256_S4x900x1_S4x900x256_2_1_0_0_1_2_11256
abbrev gl := gather_S4x16384x91_S4x900x1_S4x900x91_2_1_0_0_1_2_1191
abbrev ga := gather_S16384x4_S4x900x1_S4x900x4_2_0_n_n_0_2_14
/-- The selected rows. -/
def rows : FVec Ideal S4x900x256 .f32 :=
  select (broadcastInDim S4x900x256 ![0, 1] bcast_S4x900_S4x900x256_0_1 (ok n)) (Host.gather gx x (look n)) (broadcastInDim S4x900x256 ![] bcast_S_S4x900x256 (constant S_ .f32 0x7FC00000#32))
/-- Every token's class logits. -/
def logits : FVec Ideal S4x16384x91 .f32 :=
  addf (Host.dotGeneral dot_S4x16384x256_S256x91_S4x16384x91_2_0_01_1_n_n none x wc) (broadcastInDim S4x16384x91 ![0, 1, 2] bcast_S1x1x91_S4x16384x91_0_1_2 (broadcastInDim S1x1x91 ![2] bcast_S91_S1x1x91_2 bc))
/-- The selected class logits. -/
def rowLogits : FVec Ideal S4x900x91 .f32 :=
  select (broadcastInDim S4x900x91 ![0, 1] bcast_S4x900_S4x900x91_0_1 (ok n)) (Host.gather gl (logits x wc bc) (look n)) (broadcastInDim S4x900x91 ![] bcast_S_S4x900x91 (constant S_ .f32 0x7FC00000#32))
/-- The centres of the cells of one side. -/
def centres : FVec Ideal S128 .f32 := addf (sitofp .f32 (iotaInDim S128 32 0)) (broadcastInDim S128 ![] bcast_S_S128 (constant S_ .f32 0x3F000000#32))
/-- The anchors. -/
def anchors : FVec Ideal S16384x4 .f32 :=
  concatenate S16384x4 1
    [⟨S16384x1, broadcastInDim S16384x1 ![0] bcast_S16384_S16384x1_0 (shapeCast S16384 (Host.divf (F := Ideal) (broadcastInDim S128x128 ![1] bcast_S128_S128x128_1 centres) (broadcastInDim S128x128 ![] bcast_S_S128x128 (constant S_ .f32 0x43000000#32))) shapeCasts_S128x128_S16384)⟩,
     ⟨S16384x1, broadcastInDim S16384x1 ![0] bcast_S16384_S16384x1_0 (shapeCast S16384 (Host.divf (F := Ideal) (broadcastInDim S128x128 ![0] bcast_S128_S128x128_0 centres) (broadcastInDim S128x128 ![] bcast_S_S128x128 (constant S_ .f32 0x43000000#32))) shapeCasts_S128x128_S16384)⟩,
     ⟨S16384x1, broadcastInDim S16384x1 ![0] bcast_S16384_S16384x1_0 (broadcastInDim S16384 ![] bcast_S_S16384 (constant (F := Ideal) S_ .f32 0x3D4CCCCD#32))⟩,
     ⟨S16384x1, broadcastInDim S16384x1 ![0] bcast_S16384_S16384x1_0 (broadcastInDim S16384 ![] bcast_S_S16384 (constant (F := Ideal) S_ .f32 0x3D4CCCCD#32))⟩]
    concatenates_S16384x1_S16384x1_S16384x1_S16384x1_S16384x4_d1
/-- The selected anchors. -/
def rowAnchors : FVec Ideal S4x900x4 .f32 := Host.gather ga anchors (lookA n)
/-- One hidden layer. -/
def layer (r : FVec Ideal S4x900x256 .f32) (w : FVec Ideal S256x256 .f32) (b : FVec Ideal S256 .f32) : FVec Ideal S4x900x256 .f32 :=
  maximumf (addf (Host.dotGeneral dot_S4x900x256_S256x256_S4x900x256_2_0_01_1_n_n none r w) (broadcastInDim S4x900x256 ![0, 1, 2] bcast_S1x1x256_S4x900x256_0_1_2 (broadcastInDim S1x1x256 ![2] bcast_S256_S1x1x256_2 b)))
    (broadcastInDim S4x900x256 ![] bcast_S_S4x900x256 (constant S_ .f32 0x00000000#32))
/-- The last layer. -/
def last (r : FVec Ideal S4x900x256 .f32) : FVec Ideal S4x900x4 .f32 :=
  addf (Host.dotGeneral dot_S4x900x256_S256x4_S4x900x4_2_0_01_1_n_n none r w3) (broadcastInDim S4x900x4 ![0, 1, 2] bcast_S1x1x4_S4x900x4_0_1_2 (broadcastInDim S1x1x4 ![2] bcast_S4_S1x1x4_2 b3))
/-- The boxes' sizes, from the deltas and the anchors. -/
def sizes (d a : FVec Ideal S4x900x4 .f32) : FVec Ideal S4x900x2 .f32 :=
  mulf (extractStridedSlice S4x900x2 ![0, 0, 2] a slices_S4x900x4_S4x900x2_0_0_2)
    (Host.exp (F := Ideal) (minimumf (broadcastInDim S4x900x2 ![] bcast_S_S4x900x2 (id (constant (F := Ideal) S_ .f32 0x40845349#32)))
      (maximumf (broadcastInDim S4x900x2 ![] bcast_S_S4x900x2 (id (constant (F := Ideal) S_ .f32 0xC0845349#32))) (extractStridedSlice S4x900x2 ![0, 0, 2] d slices_S4x900x4_S4x900x2_0_0_2))))
/-- The boxes' centres. -/
def mids (d a : FVec Ideal S4x900x4 .f32) : FVec Ideal S4x900x2 .f32 :=
  addf (extractStridedSlice S4x900x2 ![0, 0, 0] a slices_S4x900x4_S4x900x2_0_0_0)
    (mulf (extractStridedSlice S4x900x2 ![0, 0, 2] a slices_S4x900x4_S4x900x2_0_0_2) (extractStridedSlice S4x900x2 ![0, 0, 0] d slices_S4x900x4_S4x900x2_0_0_0))
/-- The boxes' corners, clipped. -/
def boxes (d a : FVec Ideal S4x900x4 .f32) : FVec Ideal S4x900x4 .f32 :=
  minimumf (broadcastInDim S4x900x4 ![] bcast_S_S4x900x4 (id (constant (F := Ideal) S_ .f32 0x3F800000#32)))
    (maximumf (broadcastInDim S4x900x4 ![] bcast_S_S4x900x4 (id (constant (F := Ideal) S_ .f32 0x00000000#32)))
      (concatenate S4x900x4 2
        [⟨S4x900x2, subf (mids d a) (mulf (broadcastInDim S4x900x2 ![] bcast_S_S4x900x2 (constant S_ .f32 0x3F000000#32)) (sizes d a))⟩,
         ⟨S4x900x2, addf (mids d a) (mulf (broadcastInDim S4x900x2 ![] bcast_S_S4x900x2 (constant S_ .f32 0x3F000000#32)) (sizes d a))⟩]
        concatenates_S4x900x2_S4x900x2_S4x900x4_d2))

/-- Three pieces of a result row side by side: 256, 4 and 91 entries. -/
abbrev join (p : FVec Ideal S4x900x256 .f32) (q : FVec Ideal S4x900x4 .f32) (r : FVec Ideal S4x900x91 .f32) : FVec Ideal S4x900x351 .f32 :=
  concatenate S4x900x351 2 [⟨S4x900x256, p⟩, ⟨S4x900x4, q⟩, ⟨S4x900x91, r⟩] concatenates_S4x900x256_S4x900x4_S4x900x91_S4x900x351_d2

/-- The reference's result is its pieces joined. -/
theorem res_eq (m : (ℓ : Loc nD τ sig) → Buf (Elt Ideal) ℓ) (c : Dev nD) :
    (Value.res_main_v67 m c : FVec Ideal S4x900x351 .f32)
      = join (rows (m (c.tc.loc main_arg0)) (m (c.tc.loc main_arg1)))
          (boxes (last (m (c.tc.loc main_arg8)) (m (c.tc.loc main_arg9)) (layer (layer (rows (m (c.tc.loc main_arg0)) (m (c.tc.loc main_arg1))) (m (c.tc.loc main_arg4)) (m (c.tc.loc main_arg5))) (m (c.tc.loc main_arg6)) (m (c.tc.loc main_arg7))))
            (rowAnchors (m (c.tc.loc main_arg1))))
          (rowLogits (m (c.tc.loc main_arg0)) (m (c.tc.loc main_arg1)) (m (c.tc.loc main_arg2)) (m (c.tc.loc main_arg3))) := by
  unfold Value.res_main_v67
  rfl

/-! ## The result's entries, as numbers -/

/-- A hidden layer, of a row. -/
def hidden (w : FVec Ideal S256x256 .f32) (b : FVec Ideal S256 .f32) (r : Fin 256 → EReal) (q : Fin 256) : EReal :=
  max (∑ k, r k * w (ix2 k q) + b (ix1 q)) 0
/-- The four deltas, of a row. -/
def delta (r : Fin 256 → EReal) (q : Fin 4) : EReal :=
  ∑ k, hidden w2 b2 (hidden w1 b1 r) k * w3 (ix2 k q) + b3 (ix1 q)
/-- A class logit, of a row. -/
def logit (r : Fin 256 → EReal) (q : Fin 91) : EReal := ∑ k, r k * wc (ix2 k q) + bc (ix1 q)
/-- The anchors' side. -/
abbrev side : EReal := Ideal.ofBits .f32 0x3D4CCCCD#32
/-- Half a box's side, from its delta: half the anchor's side times the exponential of the clipped delta. -/
def halfSide (e : EReal) : EReal :=
  Ideal.ofBits .f32 0x3F000000#32 * (side * Ideal.exp (min (Ideal.ofBits .f32 0x40845349#32) (max (Ideal.ofBits .f32 0xC0845349#32) e)))
/-- A coordinate clipped to the image. -/
def clip (v : EReal) : EReal := min 1 (max 0 v)
/-- The box of the token `t`, from its four deltas: left, top, right, bottom. -/
def box (d : Fin 4 → EReal) (t : Nat) (q : Fin 4) : EReal :=
  if q = 0 then clip (ScoresPure.coord (t % 128) + side * d 0 - halfSide (d 2))
  else if q = 1 then clip (ScoresPure.coord (t / 128) + side * d 1 - halfSide (d 3))
  else if q = 2 then clip (ScoresPure.coord (t % 128) + side * d 0 + halfSide (d 2))
  else clip (ScoresPure.coord (t / 128) + side * d 1 + halfSide (d 3))

/-! ## Entry by entry -/

theorem layer_apply (r : FVec Ideal S4x900x256 .f32) (w : FVec Ideal S256x256 .f32) (b : FVec Ideal S256 .f32) (i : Fin 4) (j : Fin 900) (q : Fin 256) :
    layer r w b (ix3 i j q) = hidden w b (fun k => r (ix3 i j k)) q := by
  pointwise [layer]
  rfl
theorem last_apply (r : FVec Ideal S4x900x256 .f32) (i : Fin 4) (j : Fin 900) (q : Fin 4) :
    last w3 b3 r (ix3 i j q) = ∑ k, r (ix3 i j k) * w3 (ix2 k q) + b3 (ix1 q) := by
  pointwise [last]
theorem logits_apply (i : Fin 4) (j : Fin 16384) (q : Fin 91) :
    logits x wc bc (ix3 i j q) = logit wc bc (fun k => x (ix3 i j k)) q := by
  pointwise [logits]
  rfl
theorem anchors_apply (j : Fin 16384) (q : Fin 4) :
    anchors (ix2 j q) = if q = 0 then ScoresPure.coord (j.val % 128) else if q = 1 then ScoresPure.coord (j.val / 128) else side := by
  pointwise [anchors, centres]
  fin_cases q <;> rfl

theorem one_eq : (id (constant (F := Ideal) S_ .f32 0x3F800000#32) ix0 : EReal) = 1 := by
  show Ideal.ofBits .f32 0x3F800000#32 = 1
  pointwise
theorem zero_eq : (id (constant (F := Ideal) S_ .f32 0x00000000#32) ix0 : EReal) = 0 := by
  show Ideal.ofBits .f32 0x00000000#32 = 0
  pointwise

/-- A selected row's box, from its deltas and its anchor. -/
theorem boxes_apply (d a : FVec Ideal S4x900x4 .f32) (i : Fin 4) (j : Fin 900) (q : Fin 4) (t : Nat)
    (ha : ∀ q : Fin 4, a (ix3 i j q) = if q = 0 then ScoresPure.coord (t % 128) else if q = 1 then ScoresPure.coord (t / 128) else side) :
    boxes d a (ix3 i j q) = box (fun q => d (ix3 i j q)) t q := by
  have a0 : a (ix3 i j (0 : Fin 4)) = ScoresPure.coord (t % 128) := ha 0
  have a1 : a (ix3 i j (1 : Fin 4)) = ScoresPure.coord (t / 128) := ha 1
  have a2 : a (ix3 i j (2 : Fin 4)) = side := ha 2
  have a3 : a (ix3 i j (3 : Fin 4)) = side := ha 3
  pointwise [boxes, mids, sizes]
  rw [one_eq, zero_eq]
  match q with
  | 0 => show clip (a (ix3 i j (0 : Fin 4)) + a (ix3 i j (2 : Fin 4)) * d (ix3 i j (0 : Fin 4)) - Ideal.ofBits .f32 0x3F000000#32 * (a (ix3 i j (2 : Fin 4)) * Ideal.exp (min _ (max _ (d (ix3 i j (2 : Fin 4))))))) = _
         rw [a0, a2]; rfl
  | 1 => show clip (a (ix3 i j (1 : Fin 4)) + a (ix3 i j (3 : Fin 4)) * d (ix3 i j (1 : Fin 4)) - Ideal.ofBits .f32 0x3F000000#32 * (a (ix3 i j (3 : Fin 4)) * Ideal.exp (min _ (max _ (d (ix3 i j (3 : Fin 4))))))) = _
         rw [a1, a3]; rfl
  | 2 => show clip (a (ix3 i j (0 : Fin 4)) + a (ix3 i j (2 : Fin 4)) * d (ix3 i j (0 : Fin 4)) + Ideal.ofBits .f32 0x3F000000#32 * (a (ix3 i j (2 : Fin 4)) * Ideal.exp (min _ (max _ (d (ix3 i j (2 : Fin 4))))))) = _
         rw [a0, a2]; rfl
  | 3 => show clip (a (ix3 i j (1 : Fin 4)) + a (ix3 i j (3 : Fin 4)) * d (ix3 i j (1 : Fin 4)) + Ideal.ofBits .f32 0x3F000000#32 * (a (ix3 i j (3 : Fin 4)) * Ideal.exp (min _ (max _ (d (ix3 i j (3 : Fin 4))))))) = _
         rw [a1, a3]; rfl

/-! ## The lookups -/

/-- The row a selected number names. -/
abbrev row (h : ∀ j, (n j).toNat < 16384) (i : Fin 4) (j : Fin 900) : Fin 16384 := ⟨(n (ix2 i (j.castLE (by decide) : Fin 1024))).toNat, h _⟩

theorem sel_apply (i : Fin 4) (j : Fin 900) : sel n (ix2 i j) = n (ix2 i (j.castLE (by decide) : Fin 1024)) := by
  pointwise
  rfl

/-- What is one number a row, repeated along the row, read at any of its places. -/
theorem spread1 (f : IVec S4x900 32) (i : Fin 4) (j : Fin 900) (q : Fin 1) : broadcastInDim S4x900x1 ![0, 1] bcast_S4x900_S4x900x1_0_1 f (ix3 i j q) = f (ix2 i j) := by
  pointwise
theorem spread256 (f : IVec S4x900 1) (i : Fin 4) (j : Fin 900) (q : Fin 256) : broadcastInDim S4x900x256 ![0, 1] bcast_S4x900_S4x900x256_0_1 f (ix3 i j q) = f (ix2 i j) := by
  pointwise
theorem spread91 (f : IVec S4x900 1) (i : Fin 4) (j : Fin 900) (q : Fin 91) : broadcastInDim S4x900x91 ![0, 1] bcast_S4x900_S4x900x91_0_1 f (ix3 i j q) = f (ix2 i j) := by
  pointwise

theorem look_apply (h : ∀ j, (n j).toNat < 16384) (i : Fin 4) (j : Fin 900) : look n (ix3 i j (0 : Fin 1)) = n (ix2 i (j.castLE (by decide) : Fin 1024)) := by
  refine Eq.trans ?_ (GatherPure.wrap_apply _ (h _))
  rw [← sel_apply n i j]
  rw [← spread1 (sel n) i j 0]
  rfl
theorem lookA_apply (h : ∀ j, (n j).toNat < 16384) (i : Fin 4) (j : Fin 900) : lookA n (ix3 i j (0 : Fin 1)) = n (ix2 i (j.castLE (by decide) : Fin 1024)) := by
  refine Eq.trans ?_ (GatherPure.wrap_apply _ (h _))
  rw [← sel_apply n i j]
  unfold lookA
  rw [spread1]
  rfl

theorem ok_apply (h : ∀ j, (n j).toNat < 16384) (i : Fin 4) (j : Fin 900) : ok n (ix2 i j) = 1#1 :=
  Host.reduce_andi_one _ _ _ _ _ rfl fun k => by
    show IntOp.andi (IntOp.cmpi .sge (look n k) 0#32) (IntOp.cmpi .sle (look n k) 16383#32) = 1#1
    have e : look n k = _ := (congrArg (look n) (show k = ix3 (n0 := 4) (n1 := 900) (k 0) (k 1) (0 : Fin 1) from
      funext fun a => match a with | 0 => rfl | 1 => rfl | 2 => Subsingleton.elim (α := Fin 1) _ _)).trans (look_apply n h (k 0) (k 1))
    rw [e]
    exact GatherPure.inRange _ (h _)

theorem gx_siIdx (j : S4x900x256.Idx) (k) : gx.siIdx j k = ix3 (n0 := 4) (n1 := 900) (j 0) (j 1) (0 : Fin 1) := by
  funext a
  match a with
  | 0 => rfl
  | 1 => rfl
  | 2 => exact Subsingleton.elim (α := Fin 1) _ _
theorem gl_siIdx (j : S4x900x91.Idx) (k) : gl.siIdx j k = ix3 (n0 := 4) (n1 := 900) (j 0) (j 1) (0 : Fin 1) := by
  funext a
  match a with
  | 0 => rfl
  | 1 => rfl
  | 2 => exact Subsingleton.elim (α := Fin 1) _ _
theorem ga_siIdx (j : S4x900x4.Idx) (k) : ga.siIdx j k = ix3 (n0 := 4) (n1 := 900) (j 0) (j 1) (0 : Fin 1) := by
  funext a
  match a with
  | 0 => rfl
  | 1 => rfl
  | 2 => exact Subsingleton.elim (α := Fin 1) _ _

/-- A row number as the lookups read it: within the table it is itself. -/
theorem clamp (v : BitVec 32) (h : v.toNat < 16384) : min v.toInt.toNat 16383 = v.toNat := by
  rw [BitVec.toInt_eq_toNat_cond]
  split <;> omega

theorem gx_apply (idx : IVec S4x900x1 32) (b : Fin 4) (k : Fin 900) (c : Fin 256) (h : (idx (ix3 b k (0 : Fin 1))).toNat < 16384) :
    Host.gather gx x idx (ix3 b k c) = x (ix3 b (⟨(idx (ix3 b k (0 : Fin 1))).toNat, h⟩ : Fin 16384) c) := by
  unfold Host.gather
  refine congrArg x (funext fun a => Fin.ext ?_)
  match a with
  | 0 =>
    show gx.start (ix3 b k c) idx 0 + gx.batchCoord (ix3 b k c) 0 + gx.offCoord (ix3 b k c) 0 = b.val
    have h1 : gx.start (ix3 b k c) idx 0 = 0 := rfl
    have h2 : gx.batchCoord (ix3 b k c) 0 = b.val := rfl
    have h3 : gx.offCoord (ix3 b k c) 0 = 0 := rfl
    omega
  | 1 =>
    show gx.start (ix3 b k c) idx 1 + gx.batchCoord (ix3 b k c) 1 + gx.offCoord (ix3 b k c) 1 = (idx (ix3 b k (0 : Fin 1))).toNat
    have h1 : gx.start (ix3 b k c) idx 1 = min (idx (gx.siIdx (ix3 b k c) ⟨0, by decide⟩)).toInt.toNat 16383 := rfl
    have h2 : gx.batchCoord (ix3 b k c) 1 = 0 := rfl
    have h3 : gx.offCoord (ix3 b k c) 1 = 0 := rfl
    rw [h1, h2, h3, gx_siIdx]
    exact clamp _ h
  | 2 =>
    show gx.start (ix3 b k c) idx 2 + gx.batchCoord (ix3 b k c) 2 + gx.offCoord (ix3 b k c) 2 = c.val
    have h1 : gx.start (ix3 b k c) idx 2 = 0 := rfl
    have h2 : gx.batchCoord (ix3 b k c) 2 = 0 := rfl
    have h3 : gx.offCoord (ix3 b k c) 2 = c.val := rfl
    omega
theorem gl_apply (y : FVec Ideal S4x16384x91 .f32) (idx : IVec S4x900x1 32) (b : Fin 4) (k : Fin 900) (c : Fin 91) (h : (idx (ix3 b k (0 : Fin 1))).toNat < 16384) :
    Host.gather gl y idx (ix3 b k c) = y (ix3 b (⟨(idx (ix3 b k (0 : Fin 1))).toNat, h⟩ : Fin 16384) c) := by
  unfold Host.gather
  refine congrArg y (funext fun a => Fin.ext ?_)
  match a with
  | 0 =>
    show gl.start (ix3 b k c) idx 0 + gl.batchCoord (ix3 b k c) 0 + gl.offCoord (ix3 b k c) 0 = b.val
    have h1 : gl.start (ix3 b k c) idx 0 = 0 := rfl
    have h2 : gl.batchCoord (ix3 b k c) 0 = b.val := rfl
    have h3 : gl.offCoord (ix3 b k c) 0 = 0 := rfl
    omega
  | 1 =>
    show gl.start (ix3 b k c) idx 1 + gl.batchCoord (ix3 b k c) 1 + gl.offCoord (ix3 b k c) 1 = (idx (ix3 b k (0 : Fin 1))).toNat
    have h1 : gl.start (ix3 b k c) idx 1 = min (idx (gl.siIdx (ix3 b k c) ⟨0, by decide⟩)).toInt.toNat 16383 := rfl
    have h2 : gl.batchCoord (ix3 b k c) 1 = 0 := rfl
    have h3 : gl.offCoord (ix3 b k c) 1 = 0 := rfl
    rw [h1, h2, h3, gl_siIdx]
    exact clamp _ h
  | 2 =>
    show gl.start (ix3 b k c) idx 2 + gl.batchCoord (ix3 b k c) 2 + gl.offCoord (ix3 b k c) 2 = c.val
    have h1 : gl.start (ix3 b k c) idx 2 = 0 := rfl
    have h2 : gl.batchCoord (ix3 b k c) 2 = 0 := rfl
    have h3 : gl.offCoord (ix3 b k c) 2 = c.val := rfl
    omega
theorem ga_apply (y : FVec Ideal S16384x4 .f32) (idx : IVec S4x900x1 32) (b : Fin 4) (k : Fin 900) (c : Fin 4) (h : (idx (ix3 b k (0 : Fin 1))).toNat < 16384) :
    Host.gather ga y idx (ix3 b k c) = y (ix2 (⟨(idx (ix3 b k (0 : Fin 1))).toNat, h⟩ : Fin 16384) c) := by
  unfold Host.gather
  refine congrArg y (funext fun a => Fin.ext ?_)
  match a with
  | 0 =>
    show ga.start (ix3 b k c) idx 0 + ga.batchCoord (ix3 b k c) 0 + ga.offCoord (ix3 b k c) 0 = (idx (ix3 b k (0 : Fin 1))).toNat
    have h1 : ga.start (ix3 b k c) idx 0 = min (idx (ga.siIdx (ix3 b k c) ⟨0, by decide⟩)).toInt.toNat 16383 := rfl
    have h2 : ga.batchCoord (ix3 b k c) 0 = 0 := rfl
    have h3 : ga.offCoord (ix3 b k c) 0 = 0 := rfl
    rw [h1, h2, h3, ga_siIdx]
    exact clamp _ h
  | 1 =>
    show ga.start (ix3 b k c) idx 1 + ga.batchCoord (ix3 b k c) 1 + ga.offCoord (ix3 b k c) 1 = c.val
    have h1 : ga.start (ix3 b k c) idx 1 = 0 := rfl
    have h2 : ga.batchCoord (ix3 b k c) 1 = 0 := rfl
    have h3 : ga.offCoord (ix3 b k c) 1 = c.val := rfl
    omega

variable (h : ∀ j, (n j).toNat < 16384)

theorem rows_apply (b : Fin 4) (k : Fin 900) (c : Fin 256) : rows x n (ix3 b k c) = x (ix3 b (row n h b k) c) := by
  unfold rows
  refine (if_pos ((spread256 (ok n) b k c).trans (ok_apply n h b k))).trans ?_
  have e := look_apply n h b k
  refine (gx_apply x (look n) b k c (by rw [e]; exact h _)).trans ?_
  exact congrArg x (by congr 1; exact Fin.ext (congrArg BitVec.toNat e))
theorem rowLogits_apply (b : Fin 4) (k : Fin 900) (c : Fin 91) :
    rowLogits x n wc bc (ix3 b k c) = logit wc bc (fun q => x (ix3 b (row n h b k) q)) c := by
  rw [← logits_apply]
  unfold rowLogits
  refine (if_pos ((spread91 (ok n) b k c).trans (ok_apply n h b k))).trans ?_
  have e := look_apply n h b k
  refine (gl_apply (logits x wc bc) (look n) b k c (by rw [e]; exact h _)).trans ?_
  exact congrArg (logits x wc bc) (by congr 1; exact Fin.ext (congrArg BitVec.toNat e))
theorem rowAnchors_apply (b : Fin 4) (k : Fin 900) (c : Fin 4) :
    rowAnchors n (ix3 b k c) = if c = 0 then ScoresPure.coord ((row n h b k).val % 128) else if c = 1 then ScoresPure.coord ((row n h b k).val / 128) else side := by
  rw [← anchors_apply]
  unfold rowAnchors
  have e := lookA_apply n h b k
  refine (ga_apply anchors (lookA n) b k c (by rw [e]; exact h _)).trans ?_
  exact congrArg anchors (by congr 1; exact Fin.ext (congrArg BitVec.toNat e))
/-- The selected rows' boxes. -/
theorem rowBoxes_apply (b : Fin 4) (k : Fin 900) (c : Fin 4) :
    boxes (last w3 b3 (layer (layer (rows x n) w1 b1) w2 b2)) (rowAnchors n) (ix3 b k c)
      = box (delta w1 b1 w2 b2 w3 b3 fun q => x (ix3 b (row n h b k) q)) (row n h b k).val c := by
  rw [boxes_apply _ _ b k c (row n h b k).val (rowAnchors_apply n h b k)]
  congr 1
  funext q
  rw [last_apply]
  simp only [layer_apply, rows_apply x n h]
  rfl

end Cert.Proof.TailReference

end
-- ==== Proof.TailEntry.lean ====
/-
  What the tail's call finds in its arrays: the selected rows, their numbers, the weights.
-/
module

public import proofs.«01_k».proof.Defs
public import proofs.«01_k».proof.Proof.Gen.TailIdeal.Frame
public import Idealize.ShloMosaic.Lib.ReduceAll
public import Idealize.ShloMosaic.Lib.Pointwise
public import Idealize.ShloMosaic.Lib.StableHlo.Run
public import proofs.«01_k».proof.Proof.GatherPure

@[expose] public section

set_option maxRecDepth 16384

noncomputable section

namespace Cert.Proof.TailEntry

open Idealize.ShloMosaic Idealize.ShloMosaic.TcCoe Idealize.SL.Sem
open Cert.TailIdeal Cert.TailIdeal.Gen

variable (m : (ℓ : Loc nD τ sig) → Buf (Elt Ideal) ℓ) (c : Dev nD)

abbrev mem : FVec Ideal S4x16384x256 .f32 := m (c.tc.loc main_arg0)
abbrev sel : IVec S4x1024 32 := m (c.tc.loc main_arg1)
abbrev wcls : FVec Ideal S256x91 .f32 := m (c.tc.loc main_arg2)
abbrev bcls : FVec Ideal S91 .f32 := m (c.tc.loc main_arg3)
abbrev w1 : FVec Ideal S256x256 .f32 := m (c.tc.loc main_arg4)
abbrev b1 : FVec Ideal S256 .f32 := m (c.tc.loc main_arg5)
abbrev w2 : FVec Ideal S256x256 .f32 := m (c.tc.loc main_arg6)
abbrev b2 : FVec Ideal S256 .f32 := m (c.tc.loc main_arg7)
abbrev w3 : FVec Ideal S256x4 .f32 := m (c.tc.loc main_arg8)
abbrev b3 : FVec Ideal S4 .f32 := m (c.tc.loc main_arg9)

/-- The selected numbers, image `b`'s moved on by 16384 `b`, in one list. -/
def ids (n : IVec S4x1024 32) : IVec S4096 32 :=
  shapeCast S4096 (addi n (broadcastInDim S4x1024 ![0, 1] bcast_S4x1_S4x1024_0_1
    (muli (broadcastInDim S4x1 ![0] bcast_S4_S4x1_0 (iotaInDim S4 32 0)) (broadcastInDim S4x1 ![] bcast_S_S4x1 (constantI S_ 32 16384#32))))) shapeCasts_S4x1024_S4096
/-- The list as the lookup reads it: a negative number counts from the end. -/
def wrapped (g : IVec S4096 32) : IVec S4096x1 32 :=
  broadcastInDim S4096x1 ![0] bcast_S4096_S4096x1_0
    (select (cmpi .slt g (broadcastInDim S4096 ![] bcast_S_S4096 (constantI S_ 32 0#32))) (addi g (broadcastInDim S4096 ![] bcast_S_S4096 (constantI S_ 32 65536#32))) g)
/-- Which numbers are within the table. -/
def within (g : IVec S4096x1 32) : IVec S4096 1 :=
  Host.reduce IntOp.andi
    (andi (cmpi .sge g (broadcastInDim S4096x1 ![] bcast_S_S4096x1 (constantI S_ 32 0#32)))
      (cmpi .sle g (broadcastInDim S4096x1 ![0, 1] bcast_S1x1_S4096x1_0_1 (broadcastInDim S1x1 ![1] bcast_S1_S1x1_1 (constantI S1 32 65535#32)))))
    (constantI S_ 1 1#1) reducesTo_S4096x1_S4096_d1 h_S_
abbrev gd := gather_S65536x256_S4096x1_S4096x256_1_0_n_n_0_1_1256
/-- The lookup: a number's row of the table. -/
def take (x : FVec Ideal S65536x256 .f32) (g : IVec S4096 32) : FVec Ideal S4096x256 .f32 :=
  select (broadcastInDim S4096x256 ![0] bcast_S4096_S4096x256_0 (within (wrapped g))) (Host.gather gd x (wrapped g))
    (broadcastInDim S4096x256 ![] bcast_S_S4096x256 (constant S_ .f32 0x7FC00000#32))

theorem V_16 : (V m c main_v16 : FVec Ideal S4096x256 .f32) = take (shapeCast S65536x256 (mem m c) shapeCasts_S4x16384x256_S65536x256) (ids (sel m c)) := by
  unfold V V0 hostOps0 hostOps0_1 hostOps0_2 hostOps0_3 hostOps0_4 hostOps0_5 hostOps0_6 hostOps0_7 hostOps0_8 hostOps0_9 hostOps0_10
  simp only [List.flatten_cons, List.flatten_nil, List.cons_append, List.nil_append, StableHlo.TRef.nullary, StableHlo.TRef.unary, StableHlo.TRef.binary, StableHlo.TRef.ternary, StableHlo.TRef.toBuf, StableHlo.TRef.ofBuf, cast_eq]
  after_results <;> rfl
theorem V_17 : (V m c main_v17 : IVec S4096x1 32) = shapeCast S4096x1 (ids (sel m c)) shapeCasts_S4096_S4096x1 := by
  unfold V V0 hostOps0 hostOps0_1 hostOps0_2 hostOps0_3 hostOps0_4 hostOps0_5 hostOps0_6 hostOps0_7 hostOps0_8 hostOps0_9 hostOps0_10
  simp only [List.flatten_cons, List.flatten_nil, List.cons_append, List.nil_append, StableHlo.TRef.nullary, StableHlo.TRef.unary, StableHlo.TRef.binary, StableHlo.TRef.ternary, StableHlo.TRef.toBuf, StableHlo.TRef.ofBuf, cast_eq]
  after_results <;> rfl
theorem V_0 : (V m c main_v0 : FVec Ideal S256x128 .f32) = pad S256x128 ![0, 0] ![0, 37] ![0, 0] (wcls m c) (sitofp .f32 (constantI S_ 32 0#32)) pads_S256x91_S256x128_000_0370 h_S_ := by
  unfold V V0 hostOps0 hostOps0_1 hostOps0_2 hostOps0_3 hostOps0_4 hostOps0_5 hostOps0_6 hostOps0_7 hostOps0_8 hostOps0_9 hostOps0_10
  simp only [List.flatten_cons, List.flatten_nil, List.cons_append, List.nil_append, StableHlo.TRef.nullary, StableHlo.TRef.unary, StableHlo.TRef.binary, StableHlo.TRef.ternary, StableHlo.TRef.toBuf, StableHlo.TRef.ofBuf, cast_eq]
  after_results <;> rfl
theorem V_2 : (V m c main_v2 : FVec Ideal S1x128 .f32) = shapeCast S1x128 (pad S128 ![0] ![37] ![0] (bcls m c) (sitofp .f32 (constantI S_ 32 0#32)) pads_S91_S128_0370 h_S_) shapeCasts_S128_S1x128 := by
  unfold V V0 hostOps0 hostOps0_1 hostOps0_2 hostOps0_3 hostOps0_4 hostOps0_5 hostOps0_6 hostOps0_7 hostOps0_8 hostOps0_9 hostOps0_10
  simp only [List.flatten_cons, List.flatten_nil, List.cons_append, List.nil_append, StableHlo.TRef.nullary, StableHlo.TRef.unary, StableHlo.TRef.binary, StableHlo.TRef.ternary, StableHlo.TRef.toBuf, StableHlo.TRef.ofBuf, cast_eq]
  after_results <;> rfl
theorem V_3 : (V m c main_v3 : FVec Ideal S256x128 .f32) = pad S256x128 ![0, 0] ![0, 124] ![0, 0] (w3 m c) (sitofp .f32 (constantI S_ 32 0#32)) pads_S256x4_S256x128_000_01240 h_S_ := by
  unfold V V0 hostOps0 hostOps0_1 hostOps0_2 hostOps0_3 hostOps0_4 hostOps0_5 hostOps0_6 hostOps0_7 hostOps0_8 hostOps0_9 hostOps0_10
  simp only [List.flatten_cons, List.flatten_nil, List.cons_append, List.nil_append, StableHlo.TRef.nullary, StableHlo.TRef.unary, StableHlo.TRef.binary, StableHlo.TRef.ternary, StableHlo.TRef.toBuf, StableHlo.TRef.ofBuf, cast_eq]
  after_results <;> rfl
theorem V_5 : (V m c main_v5 : FVec Ideal S1x128 .f32) = shapeCast S1x128 (pad S128 ![0] ![124] ![0] (b3 m c) (sitofp .f32 (constantI S_ 32 0#32)) pads_S4_S128_01240 h_S_) shapeCasts_S128_S1x128 := by
  unfold V V0 hostOps0 hostOps0_1 hostOps0_2 hostOps0_3 hostOps0_4 hostOps0_5 hostOps0_6 hostOps0_7 hostOps0_8 hostOps0_9 hostOps0_10
  simp only [List.flatten_cons, List.flatten_nil, List.cons_append, List.nil_append, StableHlo.TRef.nullary, StableHlo.TRef.unary, StableHlo.TRef.binary, StableHlo.TRef.ternary, StableHlo.TRef.toBuf, StableHlo.TRef.ofBuf, cast_eq]
  after_results <;> rfl
theorem V_6 : (V m c main_v6 : FVec Ideal S1x256 .f32) = shapeCast S1x256 (b1 m c) shapeCasts_S256_S1x256 := by
  unfold V V0 hostOps0 hostOps0_1 hostOps0_2 hostOps0_3 hostOps0_4 hostOps0_5 hostOps0_6 hostOps0_7 hostOps0_8 hostOps0_9 hostOps0_10
  simp only [List.flatten_cons, List.flatten_nil, List.cons_append, List.nil_append, StableHlo.TRef.nullary, StableHlo.TRef.unary, StableHlo.TRef.binary, StableHlo.TRef.ternary, StableHlo.TRef.toBuf, StableHlo.TRef.ofBuf, cast_eq]
  after_results <;> rfl
theorem V_7 : (V m c main_v7 : FVec Ideal S1x256 .f32) = shapeCast S1x256 (b2 m c) shapeCasts_S256_S1x256 := by
  unfold V V0 hostOps0 hostOps0_1 hostOps0_2 hostOps0_3 hostOps0_4 hostOps0_5 hostOps0_6 hostOps0_7 hostOps0_8 hostOps0_9 hostOps0_10
  simp only [List.flatten_cons, List.flatten_nil, List.cons_append, List.nil_append, StableHlo.TRef.nullary, StableHlo.TRef.unary, StableHlo.TRef.binary, StableHlo.TRef.ternary, StableHlo.TRef.toBuf, StableHlo.TRef.ofBuf, cast_eq]
  after_results <;> rfl

/-! ## Entry by entry -/

theorem V_0_apply (k : Fin 256) (q : Fin 91) : (V m c main_v0 : FVec Ideal S256x128 .f32) (ix2 k (q.castLE (by decide) : Fin 128)) = wcls m c (ix2 k q) := by
  rw [V_0]
  pointwise
  exact dif_pos q.isLt
theorem V_2_apply (q : Fin 91) : (V m c main_v2 : FVec Ideal S1x128 .f32) (ix2 (0 : Fin 1) (q.castLE (by decide) : Fin 128)) = bcls m c (ix1 q) := by
  rw [V_2]
  pointwise
  exact dif_pos q.isLt
theorem V_3_apply (k : Fin 256) (q : Fin 4) : (V m c main_v3 : FVec Ideal S256x128 .f32) (ix2 k (q.castLE (by decide) : Fin 128)) = w3 m c (ix2 k q) := by
  rw [V_3]
  pointwise
  exact dif_pos q.isLt
theorem V_5_apply (q : Fin 4) : (V m c main_v5 : FVec Ideal S1x128 .f32) (ix2 (0 : Fin 1) (q.castLE (by decide) : Fin 128)) = b3 m c (ix1 q) := by
  rw [V_5]
  pointwise
  exact dif_pos q.isLt
theorem V_6_apply (q : Fin 256) : (V m c main_v6 : FVec Ideal S1x256 .f32) (ix2 (0 : Fin 1) q) = b1 m c (ix1 q) := by
  rw [V_6]
  pointwise
theorem V_7_apply (q : Fin 256) : (V m c main_v7 : FVec Ideal S1x256 .f32) (ix2 (0 : Fin 1) q) = b2 m c (ix1 q) := by
  rw [V_7]
  pointwise

/-- The image of the list's place `p`. -/
def img (p : Fin 4096) : Fin 4 := ⟨p.val / 1024, by omega⟩
/-- Its place within the image. -/
def place (p : Fin 4096) : Fin 1024 := ⟨p.val % 1024, by omega⟩

theorem ids_apply (n : IVec S4x1024 32) (p : Fin 4096) : ids n (ix1 p) = n (ix2 (img p) (place p)) + BitVec.ofNat 32 (img p).val * 16384#32 := by
  unfold ids
  refine (GatherPure.shapeCast_at _ _ (ix1 p) (ix2 (img p) (place p)) ?_).trans ?_
  · rw [Shape.rowMajor_val_one, Shape.rowMajor_val_two]
    show p.val / 1024 * 1024 + p.val % 1024 = p.val
    omega
  · pointwise
    rfl

variable (n : IVec S4x1024 32) (h : ∀ j, (n j).toNat < 16384)

/-- The token the list's place `p` names. -/
def token (p : Fin 4096) : Fin 16384 := ⟨(n (ix2 (img p) (place p))).toNat, h _⟩

theorem ids_word (p : Fin 4096) : ids n (ix1 p) = BitVec.ofNat 32 (token n h p).val + BitVec.ofNat 32 ((img p).val * 16384) := by
  rw [ids_apply, BitVec.ofNat_mul]
  congr 1
  refine BitVec.eq_of_toNat_eq ?_
  rw [BitVec.toNat_ofNat]
  have := (token n h p).isLt
  show (token n h p).val = _
  omega
theorem ids_toNat (p : Fin 4096) : (ids n (ix1 p)).toNat = (img p).val * 16384 + (token n h p).val := by
  rw [ids_word n h, ← BitVec.ofNat_add, BitVec.toNat_ofNat]
  have := (img p).isLt
  have := (token n h p).isLt
  omega
include h in
theorem ids_lt (p : Fin 4096) : (ids n (ix1 p)).toNat < 65536 := by
  rw [ids_toNat n h]
  have := (img p).isLt
  have := (token n h p).isLt
  omega

theorem wrap_eq (v : BitVec 32) (h : v.toNat < 65536) : (if IntOp.cmpi .slt v 0#32 = 1#1 then v + 65536#32 else v) = v := by
  rw [if_neg]
  simp only [IntOp.cmpi, GatherPure.ofBool_eq_one, BitVec.slt_eq_decide, decide_eq_true_eq, BitVec.toInt_eq_toNat_cond, BitVec.toNat_ofNat, Nat.reducePow, Nat.reduceMod]
  omega
theorem inRange (v : BitVec 32) (h : v.toNat < 65536) : IntOp.andi (IntOp.cmpi .sge v 0#32) (IntOp.cmpi .sle v 65535#32) = 1#1 := by
  simp only [IntOp.cmpi, GatherPure.andi_ofBool, GatherPure.ofBool_eq_one, Bool.and_eq_true, BitVec.sle_eq_decide,
    decide_eq_true_eq, BitVec.toInt_eq_toNat_cond, BitVec.toNat_ofNat, Nat.reducePow, Nat.reduceMod]
  omega
theorem clamp (v : BitVec 32) (h : v.toNat < 65536) : min v.toInt.toNat 65535 = v.toNat := by
  rw [BitVec.toInt_eq_toNat_cond]
  split <;> omega

theorem column (f : IVec S4096 32) (p : Fin 4096) (q : Fin 1) : broadcastInDim S4096x1 ![0] bcast_S4096_S4096x1_0 f (ix2 p q) = f (ix1 p) := by
  pointwise
theorem spread (f : IVec S4096 1) (p : Fin 4096) (q : Fin 256) : broadcastInDim S4096x256 ![0] bcast_S4096_S4096x256_0 f (ix2 p q) = f (ix1 p) := by
  pointwise

section Take
variable (g : IVec S4096 32) (hg : ∀ p : Fin 4096, (g (ix1 p)).toNat < 65536)
include hg

theorem wrapped_apply (p : Fin 4096) (q : Fin 1) : wrapped g (ix2 p q) = g (ix1 p) := by
  unfold wrapped
  rw [column]
  exact wrap_eq _ (hg p)
theorem within_apply (p : Fin 4096) : within (wrapped g) (ix1 p) = 1#1 :=
  Host.reduce_andi_one _ _ _ _ _ rfl fun k => by
    show IntOp.andi (IntOp.cmpi .sge (wrapped g k) 0#32) (IntOp.cmpi .sle (wrapped g k) 65535#32) = 1#1
    have e : wrapped g k = _ := (congrArg (wrapped g) (show k = ix2 (n0 := 4096) (n1 := 1) (k 0) (k 1) from
      funext fun a => match a with | 0 => rfl | 1 => rfl)).trans (wrapped_apply g hg (k 0) (k 1))
    rw [e]
    exact inRange _ (hg _)
theorem take_apply (x : FVec Ideal S65536x256 .f32) (p : Fin 4096) (k : Fin 256) : take x g (ix2 p k) = x (ix2 (⟨(g (ix1 p)).toNat, hg p⟩ : Fin 65536) k) := by
  unfold take
  refine (if_pos ((spread (within (wrapped g)) p k).trans (within_apply g hg p))).trans ?_
  unfold Host.gather
  refine congrArg x (funext fun a => Fin.ext ?_)
  match a with
  | 0 =>
    show gd.start (ix2 p k) (wrapped g) 0 + gd.batchCoord (ix2 p k) 0 + gd.offCoord (ix2 p k) 0 = (g (ix1 p)).toNat
    have h1 : gd.start (ix2 p k) (wrapped g) 0 = min (wrapped g (gd.siIdx (ix2 p k) ⟨0, by decide⟩)).toInt.toNat 65535 := rfl
    have h2 : gd.batchCoord (ix2 p k) 0 = 0 := rfl
    have h3 : gd.offCoord (ix2 p k) 0 = 0 := rfl
    have h4 : gd.siIdx (ix2 p k) ⟨0, by decide⟩ = ix2 p (0 : Fin 1) := by
      funext a
      match a with
      | 0 => rfl
      | 1 => exact Subsingleton.elim (α := Fin 1) _ _
    rw [h1, h2, h3, h4, wrapped_apply g hg]
    exact clamp _ (hg p)
  | 1 =>
    show gd.start (ix2 p k) (wrapped g) 1 + gd.batchCoord (ix2 p k) 1 + gd.offCoord (ix2 p k) 1 = k.val
    have h1 : gd.start (ix2 p k) (wrapped g) 1 = 0 := rfl
    have h2 : gd.batchCoord (ix2 p k) 1 = 0 := rfl
    have h3 : gd.offCoord (ix2 p k) 1 = k.val := rfl
    omega
end Take

section Rows
variable (hn : ∀ j, (sel m c j).toNat < 16384)

/-- The looked-up row at place `p`: its token's row in its image. -/
theorem V_16_apply (p : Fin 4096) (k : Fin 256) : (V m c main_v16 : FVec Ideal S4096x256 .f32) (ix2 p k) = mem m c (ix3 (img p) (token (sel m c) hn p) k) := by
  rw [V_16, take_apply _ (ids_lt _ hn)]
  refine GatherPure.shapeCast_at _ _ _ _ ?_
  rw [Shape.rowMajor_val_three, Shape.rowMajor_val_two]
  have := ids_toNat (sel m c) hn p
  show ((img p).val * 16384 + (token (sel m c) hn p).val) * 256 + k.val = (ids (sel m c) (ix1 p)).toNat * 256 + k.val
  rw [this]
theorem V_17_apply (p : Fin 4096) : (V m c main_v17 : IVec S4096x1 32) (ix2 p (0 : Fin 1)) = BitVec.ofNat 32 ((img p).val * 16384 + (token (sel m c) hn p).val) := by
  rw [V_17]
  refine (GatherPure.shapeCast_at _ _ _ (ix1 p) ?_).trans ?_
  · rw [Shape.rowMajor_val_one, Shape.rowMajor_val_two]
    show p.val = p.val * 1 + 0
    omega
  · rw [ids_word _ hn, ← BitVec.ofNat_add, Nat.add_comm]
end Rows

end Cert.Proof.TailEntry
end
-- ==== Proof.TailBody.lean ====
/-
  The tail call's body, entry by entry.
-/
module

public import proofs.«01_k».proof.Defs
public import proofs.«01_k».proof.Proof.Gen.TailIdeal.Frame
public import Idealize.ShloMosaic.Lib.Pointwise
public import proofs.«01_k».proof.Proof.TailReference
public import proofs.«01_k».proof.Proof.Words

@[expose] public section

set_option maxRecDepth 16384

noncomputable section

namespace Cert.Proof.TailBody

open Idealize.ShloMosaic Idealize.ShloMosaic.TcCoe Idealize.SL.Sem
open Cert.TailIdeal Cert.TailIdeal.Gen
open TailReference (hidden delta logit box clip halfSide side)
open ScoresPure (coord)

/-- A cell's centre as the body computes it: the number and a half, by 1/128. -/
theorem centre (k : Nat) : (FloatOps.sitofp (F := Ideal) .f32 (BitVec.ofNat 32 k) + Ideal.ofBits .f32 0x3F000000#32) * Ideal.ofBits .f32 0x3C000000#32 = coord k := by
  unfold coord
  rw [Consts.width, Ideal.div_coe (by norm_num), Consts.invWidth]

/-- The four deltas of row `l`, over the padded weights. -/
theorem delta_apply (x : FVec Ideal S512x256 .f32) (w1 : FVec Ideal S256x256 .f32) (b1 : FVec Ideal S1x256 .f32) (w2 : FVec Ideal S256x256 .f32) (b2 : FVec Ideal S1x256 .f32)
    (w3 : FVec Ideal S256x128 .f32) (b3 : FVec Ideal S1x128 .f32) (l : Fin 512) (q : Fin 128) :
    (k0_pay3 x w1 b1 w2 b2 w3 b3 : FVec Ideal S512x128 .f32) (ix2 l q)
      = ∑ k, hidden w2 (fun i => b2 (ix2 0 (i 0))) (hidden w1 (fun i => b1 (ix2 0 (i 0))) fun k => x (ix2 l k)) k * w3 (ix2 k q) + b3 (ix2 0 q) := by
  pointwise [k0_pay3, k0_pay2]
  rfl
/-- The class logits of row `l`, over the padded predictor. -/
theorem logit_apply (x : FVec Ideal S512x256 .f32) (w : FVec Ideal S256x128 .f32) (b : FVec Ideal S1x128 .f32) (l : Fin 512) (q : Fin 128) :
    (k0_pay4 x w b : FVec Ideal S512x128 .f32) (ix2 l q) = ∑ k, x (ix2 l k) * w (ix2 k q) + b (ix2 0 q) := by
  pointwise [k0_pay4, k0_pay2]

theorem cellX (b t : Nat) (hb : b < 4) (ht : t < 16384) : IntOp.andi (BitVec.ofNat 32 (b * 16384 + t)) 127#32 = BitVec.ofNat 32 (t % 128) := by
  rw [Words.andi127 _ (by omega)]
  congr 1
  omega
theorem cellY (b t : Nat) (hb : b < 4) (ht : t < 16384) : IntOp.andi (IntOp.shrsi .vector (BitVec.ofNat 32 (b * 16384 + t)) 7#32) 127#32 = BitVec.ofNat 32 (t / 128) := by
  rw [Words.shr7 _ (by omega), Words.andi127 _ (by omega)]
  congr 1
  omega

/-- The box the body writes in row `l`, from the row's deltas and its number. -/
theorem box_apply (v : FVec Ideal S512x128 .f32) (n : IVec S512x1 32) (l : Fin 512) (b t : Nat) (hb : b < 4) (ht : t < 16384)
    (hn : n (ix2 l (0 : Fin 1)) = BitVec.ofNat 32 (b * 16384 + t)) (q : Fin 4) :
    (k0_pay1 k0_pay10 (k0_pay11 (k0_pay6 v n) (k0_pay7 v n) (k0_pay8 v) (k0_pay9 v)) (k0_pay12 (k0_pay6 v n) (k0_pay8 v)) : FVec Ideal S512x128 .f32) (ix2 l (q.castLE (by decide) : Fin 128))
      = box (fun d => v (ix2 l (d.castLE (by decide) : Fin 128))) t q := by
  pointwise [k0_pay1, k0_pay10, k0_pay11, k0_pay12, k0_pay6, k0_pay7, k0_pay8, k0_pay9, k0_pay5]
  rw [hn, cellX b t hb ht, cellY b t hb ht, centre, centre]
  unfold box
  match q with
  | 0 => rfl
  | 1 => rfl
  | 2 => rfl
  | 3 => rfl

/-! ## What the body leaves in its two blocks -/

theorem hz2 : (![0, 0] : Fin 2 → Nat) = fun _ => 0 := funext fun a => by fin_cases a <;> rfl

variable (x0 : FVec Ideal S512x256 .f32) (x1 : IVec S512x1 32) (x2 : FVec Ideal S256x256 .f32) (x3 : FVec Ideal S1x256 .f32) (x4 : FVec Ideal S256x256 .f32) (x5 : FVec Ideal S1x256 .f32) (x6 : FVec Ideal S256x128 .f32) (x7 : FVec Ideal S1x128 .f32) (x8 : FVec Ideal S256x128 .f32) (x9 : FVec Ideal S1x128 .f32)

theorem ld0 : View.ld (Val := Elt Ideal) (e' := .f32) x0 r0_0 = x0 := View.ld_unit_zero hz2 _ _
theorem ld1 : View.ld (Val := Elt Ideal) (e' := .i32) x1 r0_6 = x1 := View.ld_unit_zero hz2 _ _
theorem ld2 : View.ld (Val := Elt Ideal) (e' := .f32) x2 r0_1 = x2 := View.ld_unit_zero hz2 _ _
theorem ld3 : View.ld (Val := Elt Ideal) (e' := .f32) x3 r0_2 = x3 := View.ld_unit_zero hz2 _ _
theorem ld6 : View.ld (Val := Elt Ideal) (e' := .f32) x6 r0_3 = x6 := View.ld_unit_zero hz2 _ _
theorem ld7 : View.ld (Val := Elt Ideal) (e' := .f32) x7 r0_4 = x7 := View.ld_unit_zero hz2 _ _

variable (l : Fin 512) (r : Fin 256 → EReal) (hr : ∀ k, x0 (ix2 l k) = r k)
include hr

/-- The box lanes of row `l`: the box of its token from the deltas of its row. -/
theorem box_row (b t : Nat) (hb : b < 4) (ht : t < 16384) (hn : x1 (ix2 l (0 : Fin 1)) = BitVec.ofNat 32 (b * 16384 + t))
    (b1 b2 : FVec Ideal S256 .f32) (w3 : FVec Ideal S256x4 .f32) (b3 : FVec Ideal S4 .f32)
    (h3 : ∀ q, x3 (ix2 (0 : Fin 1) q) = b1 (ix1 q)) (h5 : ∀ q, x5 (ix2 (0 : Fin 1) q) = b2 (ix1 q))
    (h6 : ∀ k (q : Fin 4), x6 (ix2 k (q.castLE (by decide) : Fin 128)) = w3 (ix2 k q)) (h7 : ∀ q : Fin 4, x7 (ix2 (0 : Fin 1) (q.castLE (by decide) : Fin 128)) = b3 (ix1 q)) (q : Fin 4) :
    (out0_10 (F := Ideal) x0 x1 x2 x3 x4 x5 x6 x7 x8 x9 : FVec Ideal S512x128 .f32) (ix2 l (q.castLE (by decide) : Fin 128)) = box (delta x2 b1 x4 b2 w3 b3 r) t q := by
  unfold out0_10 k0_pay14 k0_pay15 k0_pay13
  rw [View.canon_unit_zero hz2, ld0, ld1, ld2, ld2, ld3, ld3, ld6, ld7]
  rw [box_apply _ _ l b t hb ht hn]
  congr 1
  funext d
  rw [delta_apply]
  have e1 : (fun i => x3 (ix2 0 (i 0)) : FVec Ideal S256 .f32) = b1 := funext fun i => (h3 (i 0)).trans (congrArg b1 (funext fun a => match a with | 0 => rfl))
  have e2 : (fun i => x5 (ix2 0 (i 0)) : FVec Ideal S256 .f32) = b2 := funext fun i => (h5 (i 0)).trans (congrArg b2 (funext fun a => match a with | 0 => rfl))
  rw [e1, e2, show (fun k => x0 (ix2 l k)) = r from funext hr, h7]
  unfold delta
  congr 1
  exact Finset.sum_congr rfl fun k _ => by rw [h6]

/-- The logit lanes of row `l`. -/
theorem logit_row (w : FVec Ideal S256x91 .f32) (b : FVec Ideal S91 .f32) (h8 : ∀ k (q : Fin 91), x8 (ix2 k (q.castLE (by decide) : Fin 128)) = w (ix2 k q))
    (h9 : ∀ q : Fin 91, x9 (ix2 (0 : Fin 1) (q.castLE (by decide) : Fin 128)) = b (ix1 q)) (q : Fin 91) :
    (out0_11 (F := Ideal) x0 x1 x2 x3 x4 x5 x6 x7 x8 x9 : FVec Ideal S512x128 .f32) (ix2 l (q.castLE (by decide) : Fin 128)) = logit w b r q := by
  unfold out0_11
  rw [View.canon_unit_zero hz2, ld0, ld6, ld7, logit_apply, h9]
  unfold logit
  congr 1
  exact Finset.sum_congr rfl fun k _ => by rw [h8, hr]

end Cert.Proof.TailBody
end
-- ==== Proof.TailValue.lean ====
/-
  The tail's result after its run, entry by entry.
-/
module

public import proofs.«01_k».proof.Defs
public import proofs.«01_k».proof.Proof.Gen.TailIdeal.Frame
public import Idealize.ShloMosaic.Lib.Pointwise
public import Idealize.ShloMosaic.Lib.StableHlo.Run
public import Idealize.ShloMosaic.Lib.Pipeline.ValueKit
public import proofs.«01_k».proof.Proof.TailEntry
public import proofs.«01_k».proof.Proof.TailBody

@[expose] public section

set_option maxRecDepth 16384

noncomputable section

namespace Cert.Proof.TailValue

open Idealize.ShloMosaic Idealize.ShloMosaic.TcCoe Idealize.SL.Sem
open Cert.TailIdeal Cert.TailIdeal.Gen TailEntry
open TailReference (hidden delta logit box)

variable (m : (ℓ : Loc nD τ sig) → Buf (Elt Ideal) ℓ) (c : Dev nD)

/-! ## The blocks -/

/-- Windows 0, 1, 10 and 11 take the `t`-th group of 512 rows, the others their whole array. -/
theorem moves : ∀ t : Fin grid0.N, (win0_0.index t 0 = t.val ∧ win0_0.index t 1 = 0 ∧ win0_1.index t 0 = t.val ∧ win0_1.index t 1 = 0)
    ∧ win0_10.index t 0 = t.val ∧ win0_10.index t 1 = 0 ∧ win0_11.index t 0 = t.val ∧ win0_11.index t 1 = 0 := by decide +kernel
theorem stays : ∀ t : Fin grid0.N, (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) := by decide +kernel

theorem lt_N (t : Fin cfg0.N) : t.val < 8 := t.isLt
/-- The list's place of row `l` of group `t`. -/
def at_ (t : Fin cfg0.N) (l : Fin 512) : Fin 4096 := ⟨t.val * 512 + l.val, by have := lt_N t; omega⟩

theorem blk0 (t : Fin cfg0.N) (l : Fin 512) (q : Fin 256) : (iblk m c 0 t : FVec Ideal S512x256 .f32) (ix2 l q) = (V m c main_v16 : FVec Ideal S4096x256 .f32) (ix2 (at_ t l) q) := by
  show V m c main_v16 (((cfg0.win 0).blk t).view.emb _) = _
  congr 1
  funext a
  obtain ⟨⟨h0, h1, -, -⟩, -⟩ := moves t
  refine Fin.ext ((Pipeline.Window.rect_emb_val win0_0 t _ a).trans ?_)
  match a with
  | ⟨0, _⟩ => show win0_0.index t 0 * 512 + l.val = t.val * 512 + l.val; omega
  | ⟨1, _⟩ => show win0_0.index t 1 * 256 + q.val = q.val; omega
theorem blk1 (t : Fin cfg0.N) (l : Fin 512) (q : Fin 1) : (iblk m c 1 t : IVec S512x1 32) (ix2 l q) = (V m c main_v17 : IVec S4096x1 32) (ix2 (at_ t l) q) := by
  show V m c main_v17 (((cfg0.win 1).blk t).view.emb _) = _
  congr 1
  funext a
  obtain ⟨⟨-, -, h0, h1⟩, -⟩ := moves t
  refine Fin.ext ((Pipeline.Window.rect_emb_val win0_1 t _ a).trans ?_)
  match a with
  | ⟨0, _⟩ => show win0_1.index t 0 * 512 + l.val = t.val * 512 + l.val; omega
  | ⟨1, _⟩ => show win0_1.index t 1 * 1 + q.val = q.val; omega
theorem blk2 (t : Fin cfg0.N) (k : Fin 256) (q : Fin 256) : (iblk m c 2 t : FVec Ideal S256x256 .f32) (ix2 k q) = (V m c main_arg4 : FVec Ideal S256x256 .f32) (ix2 (k) q) := by
  show V m c main_arg4 (((cfg0.win 2).blk t).view.emb _) = _
  congr 1
  funext a
  obtain ⟨⟨h0, h1⟩, -⟩ := stays t
  refine Fin.ext ((Pipeline.Window.rect_emb_val win0_2 t _ a).trans ?_)
  match a with
  | ⟨0, _⟩ => show win0_2.index t 0 * 256 + k.val = k.val; omega
  | ⟨1, _⟩ => show win0_2.index t 1 * 256 + q.val = q.val; omega
theorem blk3 (t : Fin cfg0.N) (k : Fin 1) (q : Fin 256) : (iblk m c 3 t : FVec Ideal S1x256 .f32) (ix2 k q) = (V m c main_v6 : FVec Ideal S1x256 .f32) (ix2 (k) q) := by
  show V m c main_v6 (((cfg0.win 3).blk t).view.emb _) = _
  congr 1
  funext a
  obtain ⟨-, ⟨h0, h1⟩, -⟩ := stays t
  refine Fin.ext ((Pipeline.Window.rect_emb_val win0_3 t _ a).trans ?_)
  match a with
  | ⟨0, _⟩ => show win0_3.index t 0 * 1 + k.val = k.val; omega
  | ⟨1, _⟩ => show win0_3.index t 1 * 256 + q.val = q.val; omega
theorem blk4 (t : Fin cfg0.N) (k : Fin 256) (q : Fin 256) : (iblk m c 4 t : FVec Ideal S256x256 .f32) (ix2 k q) = (V m c main_arg6 : FVec Ideal S256x256 .f32) (ix2 (k) q) := by
  show V m c main_arg6 (((cfg0.win 4).blk t).view.emb _) = _
  congr 1
  funext a
  obtain ⟨-, -, ⟨h0, h1⟩, -⟩ := stays t
  refine Fin.ext ((Pipeline.Window.rect_emb_val win0_4 t _ a).trans ?_)
  match a with
  | ⟨0, _⟩ => show win0_4.index t 0 * 256 + k.val = k.val; omega
  | ⟨1, _⟩ => show win0_4.index t 1 * 256 + q.val = q.val; omega
theorem blk5 (t : Fin cfg0.N) (k : Fin 1) (q : Fin 256) : (iblk m c 5 t : FVec Ideal S1x256 .f32) (ix2 k q) = (V m c main_v7 : FVec Ideal S1x256 .f32) (ix2 (k) q) := by
  show V m c main_v7 (((cfg0.win 5).blk t).view.emb _) = _
  congr 1
  funext a
  obtain ⟨-, -, -, ⟨h0, h1⟩, -⟩ := stays t
  refine Fin.ext ((Pipeline.Window.rect_emb_val win0_5 t _ a).trans ?_)
  match a with
  | ⟨0, _⟩ => show win0_5.index t 0 * 1 + k.val = k.val; omega
  | ⟨1, _⟩ => show win0_5.index t 1 * 256 + q.val = q.val; omega
theorem blk6 (t : Fin cfg0.N) (k : Fin 256) (q : Fin 128) : (iblk m c 6 t : FVec Ideal S256x128 .f32) (ix2 k q) = (V m c main_v3 : FVec Ideal S256x128 .f32) (ix2 (k) q) := by
  show V m c main_v3 (((cfg0.win 6).blk t).view.emb _) = _
  congr 1
  funext a
  obtain ⟨-, -, -, -, ⟨h0, h1⟩, -⟩ := stays t
  refine Fin.ext ((Pipeline.Window.rect_emb_val win0_6 t _ a).trans ?_)
  match a with
  | ⟨0, _⟩ => show win0_6.index t 0 * 256 + k.val = k.val; omega
  | ⟨1, _⟩ => show win0_6.index t 1 * 128 + q.val = q.val; omega
theorem blk7 (t : Fin cfg0.N) (k : Fin 1) (q : Fin 128) : (iblk m c 7 t : FVec Ideal S1x128 .f32) (ix2 k q) = (V m c main_v5 : FVec Ideal S1x128 .f32) (ix2 (k) q) := by
  show V m c main_v5 (((cfg0.win 7).blk t).view.emb _) = _
  congr 1
  funext a
  obtain ⟨-, -, -, -, -, ⟨h0, h1⟩, -⟩ := stays t
  refine Fin.ext ((Pipeline.Window.rect_emb_val win0_7 t _ a).trans ?_)
  match a with
  | ⟨0, _⟩ => show win0_7.index t 0 * 1 + k.val = k.val; omega
  | ⟨1, _⟩ => show win0_7.index t 1 * 128 + q.val = q.val; omega
theorem blk8 (t : Fin cfg0.N) (k : Fin 256) (q : Fin 128) : (iblk m c 8 t : FVec Ideal S256x128 .f32) (ix2 k q) = (V m c main_v0 : FVec Ideal S256x128 .f32) (ix2 (k) q) := by
  show V m c main_v0 (((cfg0.win 8).blk t).view.emb _) = _
  congr 1
  funext a
  obtain ⟨-, -, -, -, -, -, ⟨h0, h1⟩, -⟩ := stays t
  refine Fin.ext ((Pipeline.Window.rect_emb_val win0_8 t _ a).trans ?_)
  match a with
  | ⟨0, _⟩ => show win0_8.index t 0 * 256 + k.val = k.val; omega
  | ⟨1, _⟩ => show win0_8.index t 1 * 128 + q.val = q.val; omega
theorem blk9 (t : Fin cfg0.N) (k : Fin 1) (q : Fin 128) : (iblk m c 9 t : FVec Ideal S1x128 .f32) (ix2 k q) = (V m c main_v2 : FVec Ideal S1x128 .f32) (ix2 (k) q) := by
  show V m c main_v2 (((cfg0.win 9).blk t).view.emb _) = _
  congr 1
  funext a
  obtain ⟨-, -, -, -, -, -, -, h0, h1⟩ := stays t
  refine Fin.ext ((Pipeline.Window.rect_emb_val win0_9 t _ a).trans ?_)
  match a with
  | ⟨0, _⟩ => show win0_9.index t 0 * 1 + k.val = k.val; omega
  | ⟨1, _⟩ => show win0_9.index t 1 * 128 + q.val = q.val; omega

/-! ## What a point leaves -/

section Rows
variable (h : ∀ j, (sel m c j).toNat < 16384)

/-- The row the list's place `p` names. -/
abbrev row (p : Fin 4096) : Fin 256 → EReal := fun k => mem m c (ix3 (img p) (token (sel m c) h p) k)

theorem weight1 (t : Fin cfg0.N) : (iblk m c 2 t : FVec Ideal S256x256 .f32) = w1 m c := by
  funext i
  rw [show i = ix2 (i 0) (i 1) from funext fun a => match a with | 0 => rfl | 1 => rfl]
  refine (blk2 m c t (i 0) (i 1)).trans ?_
  rw [V_main_arg4]
  rfl
theorem weight2 (t : Fin cfg0.N) : (iblk m c 4 t : FVec Ideal S256x256 .f32) = w2 m c := by
  funext i
  rw [show i = ix2 (i 0) (i 1) from funext fun a => match a with | 0 => rfl | 1 => rfl]
  refine (blk4 m c t (i 0) (i 1)).trans ?_
  rw [V_main_arg6]
  rfl

theorem out_box (t : Fin cfg0.N) (l : Fin 512) (q : Fin 4) :
    ((dats m 0 c).after 10 t : FVec Ideal S512x128 .f32) (ix2 l (q.castLE (by decide) : Fin 128))
      = box (delta (w1 m c) (b1 m c) (w2 m c) (b2 m c) (w3 m c) (b3 m c) (row m c h (at_ t l))) (token (sel m c) h (at_ t l)).val q := by
  rw [after0_10, weight1, weight2]
  exact TailBody.box_row (x0 := iblk m c 0 t) (x1 := iblk m c 1 t) (x2 := w1 m c) (x3 := iblk m c 3 t) (x4 := w2 m c) (x5 := iblk m c 5 t) (x6 := iblk m c 6 t) (x7 := iblk m c 7 t) (x8 := iblk m c 8 t) (x9 := iblk m c 9 t)
    l _ (fun k => (blk0 m c t l k).trans (V_16_apply m c h (at_ t l) k))
    (img (at_ t l)).val _ (img (at_ t l)).isLt (token (sel m c) h (at_ t l)).isLt ((blk1 m c t l 0).trans (V_17_apply m c h (at_ t l)))
    _ _ _ _ (fun q => (blk3 m c t 0 q).trans (V_6_apply m c q)) (fun q => (blk5 m c t 0 q).trans (V_7_apply m c q))
    (fun k q => (blk6 m c t k _).trans (V_3_apply m c k q)) (fun q => (blk7 m c t 0 _).trans (V_5_apply m c q)) q
theorem out_logit (t : Fin cfg0.N) (l : Fin 512) (q : Fin 91) :
    ((dats m 0 c).after 11 t : FVec Ideal S512x128 .f32) (ix2 l (q.castLE (by decide) : Fin 128))
      = logit (wcls m c) (bcls m c) (row m c h (at_ t l)) q := by
  rw [after0_11]
  exact TailBody.logit_row (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t)
    l _ (fun k => (blk0 m c t l k).trans (V_16_apply m c h (at_ t l) k)) _ _
    (fun k q => (blk8 m c t k _).trans (V_0_apply m c k q)) (fun q => (blk9 m c t 0 _).trans (V_2_apply m c q)) q

theorem emb10 (t : Fin cfg0.N) (l : Fin 512) (q : Fin 128) : (((cfg0.win 10).blk t).view.emb (ix2 l q : S512x128.Idx) : S4096x128.Idx) = ix2 (at_ t l) q := by
  funext a
  obtain ⟨-, h0, h1, -⟩ := moves t
  refine Fin.ext ((Pipeline.Window.rect_emb_val win0_10 t _ a).trans ?_)
  match a with
  | ⟨0, _⟩ => show win0_10.index t 0 * 512 + l.val = t.val * 512 + l.val; omega
  | ⟨1, _⟩ => show win0_10.index t 1 * 128 + q.val = q.val; omega
theorem apart10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun e => hne (by
    have h1 := (moves t).2.1
    have h2 := (moves t').2.1
    have e0 : win0_10.index t 0 = win0_10.index t' 0 := congrFun e 0
    exact Fin.ext (by omega))
theorem flush10 : ∀ t : Fin cfg0.N, (cfg0.win 10).flush t = true := by decide +kernel
theorem arr10 (p : Fin 4096) (q : Fin 4) : ((dats m 0 c).arrAt 10 cfg0.N : FVec Ideal S4096x128 .f32) (ix2 p (q.castLE (by decide) : Fin 128))
    = box (delta (w1 m c) (b1 m c) (w2 m c) (b2 m c) (w3 m c) (b3 m c) (row m c h p)) (token (sel m c) h p).val q := by
  have ep : p = at_ ⟨p.val / 512, by show _ < 8; omega⟩ ⟨p.val % 512, by omega⟩ := Fin.ext (by show p.val = p.val / 512 * 512 + p.val % 512; omega)
  generalize (⟨p.val / 512, _⟩ : Fin cfg0.N) = t at ep
  generalize (⟨p.val % 512, _⟩ : Fin 512) = l at ep
  subst ep
  rw [← emb10 t l]
  refine ((dats m 0 c).arrAt_emb_eq_flushed 10 apart10 t (flush10 t) _).trans ?_
  exact out_box m c h t l q

theorem emb11 (t : Fin cfg0.N) (l : Fin 512) (q : Fin 128) : (((cfg0.win 11).blk t).view.emb (ix2 l q : S512x128.Idx) : S4096x128.Idx) = ix2 (at_ t l) q := by
  funext a
  obtain ⟨-, -, -, h0, h1⟩ := moves t
  refine Fin.ext ((Pipeline.Window.rect_emb_val win0_11 t _ a).trans ?_)
  match a with
  | ⟨0, _⟩ => show win0_11.index t 0 * 512 + l.val = t.val * 512 + l.val; omega
  | ⟨1, _⟩ => show win0_11.index t 1 * 128 + q.val = q.val; omega
theorem apart11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun e => hne (by
    have h1 := (moves t).2.2.2.1
    have h2 := (moves t').2.2.2.1
    have e0 : win0_11.index t 0 = win0_11.index t' 0 := congrFun e 0
    exact Fin.ext (by omega))
theorem flush11 : ∀ t : Fin cfg0.N, (cfg0.win 11).flush t = true := by decide +kernel
theorem arr11 (p : Fin 4096) (q : Fin 91) : ((dats m 0 c).arrAt 11 cfg0.N : FVec Ideal S4096x128 .f32) (ix2 p (q.castLE (by decide) : Fin 128))
    = logit (wcls m c) (bcls m c) (row m c h p) q := by
  have ep : p = at_ ⟨p.val / 512, by show _ < 8; omega⟩ ⟨p.val % 512, by omega⟩ := Fin.ext (by show p.val = p.val / 512 * 512 + p.val % 512; omega)
  generalize (⟨p.val / 512, _⟩ : Fin cfg0.N) = t at ep
  generalize (⟨p.val % 512, _⟩ : Fin 512) = l at ep
  subst ep
  rw [← emb11 t l]
  refine ((dats m 0 c).arrAt_emb_eq_flushed 11 apart11 t (flush11 t) _).trans ?_
  exact out_logit m c h t l q
/-! ## The result -/

/-- What the host's last lines join: the looked-up rows, the boxes and the logits, of each image's first 900 places. -/
abbrev joined (x : FVec Ideal S4096x256 .f32) (y z : FVec Ideal S4096x128 .f32) : FVec Ideal S4x900x351 .f32 :=
  concatenate S4x900x351 2
    [⟨S4x900x256, extractStridedSlice S4x900x256 ![0, 0, 0] (shapeCast S4x1024x256 x shapeCasts_S4096x256_S4x1024x256) slices_S4x1024x256_S4x900x256_0_0_0⟩,
     ⟨S4x900x4, extractStridedSlice S4x900x4 ![0, 0, 0] (shapeCast S4x1024x4 (extractStridedSlice S4096x4 ![0, 0] y slices_S4096x128_S4096x4_0_0) shapeCasts_S4096x4_S4x1024x4) slices_S4x1024x4_S4x900x4_0_0_0⟩,
     ⟨S4x900x91, extractStridedSlice S4x900x91 ![0, 0, 0] (shapeCast S4x1024x91 (extractStridedSlice S4096x91 ![0, 0] z slices_S4096x128_S4096x91_0_0) shapeCasts_S4096x91_S4x1024x91) slices_S4x1024x91_S4x900x91_0_0_0⟩]
    concatenates_S4x900x256_S4x900x4_S4x900x91_S4x900x351_d2

/-- The arrays as the call leaves them. -/
abbrev Vx : Valuation τ sig (Elt Ideal) := Pipeline.withArrays (cfgs 0).spec c (V0 m c) fun w => (dats m 0 c).arrAt w (cfgs 0).N

/-- The three pieces the last line joins, out of the arrays as the call leaves them. -/
theorem pieces (W : Valuation τ sig (Elt Ideal)) :
    (StableHlo.after hostOps1 W (Proc.devRef .tc main_v20) : FVec Ideal S4x900x256 .f32)
      = extractStridedSlice S4x900x256 ![0, 0, 0] (shapeCast S4x1024x256 (W (Proc.devRef .tc main_v16) : FVec Ideal S4096x256 .f32) shapeCasts_S4096x256_S4x1024x256) slices_S4x1024x256_S4x900x256_0_0_0
    ∧ (StableHlo.after hostOps1 W (Proc.devRef .tc main_v23) : FVec Ideal S4x900x4 .f32)
      = extractStridedSlice S4x900x4 ![0, 0, 0] (shapeCast S4x1024x4 (extractStridedSlice S4096x4 ![0, 0] (W (Proc.devRef .tc main_v18_0) : FVec Ideal S4096x128 .f32) slices_S4096x128_S4096x4_0_0) shapeCasts_S4096x4_S4x1024x4) slices_S4x1024x4_S4x900x4_0_0_0
    ∧ (StableHlo.after hostOps1 W (Proc.devRef .tc main_v26) : FVec Ideal S4x900x91 .f32)
      = extractStridedSlice S4x900x91 ![0, 0, 0] (shapeCast S4x1024x91 (extractStridedSlice S4096x91 ![0, 0] (W (Proc.devRef .tc main_v18_1) : FVec Ideal S4096x128 .f32) slices_S4096x128_S4096x91_0_0) shapeCasts_S4096x91_S4x1024x91) slices_S4x1024x91_S4x900x91_0_0_0 := by
  unfold hostOps1
  refine ⟨?_, ?_, ?_⟩
  · after_results <;> rfl
  · after_results <;> rfl
  · after_results <;> rfl
/-- The last line joins them. -/
theorem join_eq (W : Valuation τ sig (Elt Ideal)) : (StableHlo.after hostOps1 W (Proc.devRef .tc main_v27) : FVec Ideal S4x900x351 .f32)
    = concatenate S4x900x351 2
      [⟨S4x900x256, (StableHlo.after hostOps1 W (Proc.devRef .tc main_v20) : FVec Ideal S4x900x256 .f32)⟩, ⟨S4x900x4, (StableHlo.after hostOps1 W (Proc.devRef .tc main_v23) : FVec Ideal S4x900x4 .f32)⟩,
       ⟨S4x900x91, (StableHlo.after hostOps1 W (Proc.devRef .tc main_v26) : FVec Ideal S4x900x91 .f32)⟩] concatenates_S4x900x256_S4x900x4_S4x900x91_S4x900x351_d2 := by
  have kept (r : Ref sig .tc) (hr : r ≠ main_v27) : StableHlo.after hostOps1 W (Proc.devRef .tc r) = StableHlo.after (hostOps1.take 8) W (Proc.devRef .tc r) :=
    StableHlo.nary_result_ne (τ := τ) (Val := Elt Ideal) main_v27 ![main_v20, main_v23, main_v26] _ _ _ (StableHlo.after (hostOps1.take 8) W) hr
  rw [kept main_v20 (by decide), kept main_v23 (by decide), kept main_v26 (by decide)]
  generalize hW : StableHlo.after (hostOps1.take 8) W = U
  have e : StableHlo.after hostOps1 W = StableHlo.after (hostOps1.drop 8) U := by rw [← hW]; rfl
  rw [e]
  simp only [hostOps1, List.drop_succ_cons, List.drop_zero, StableHlo.after_cons, StableHlo.after_nil]
  rw [StableHlo.nary_result]
  rfl
theorem tail_eq : (Pipeline.afterTail₀ cfgs (dats m) 0 (V0 m) [hostOps1] c main_v27 : FVec Ideal S4x900x351 .f32)
    = joined (Vx m c (Proc.devRef .tc main_v16)) (Vx m c (Proc.devRef .tc main_v18_0)) (Vx m c (Proc.devRef .tc main_v18_1)) := by
  show StableHlo.after hostOps1 (Vx m c) (Proc.devRef .tc main_v27) = _
  rw [join_eq, (pieces _).1, (pieces _).2.1, (pieces _).2.2]
theorem Vx_16 : Vx m c (Proc.devRef .tc main_v16) = V m c main_v16 :=
  (Pipeline.withArrays_arr spec0 (by decide) c (V0 m c) (fun w => (dats m 0 c).arrAt w cfg0.N) 0).trans (((dats m 0 c).arrAt_in 0 rfl _).trans (A_eq m c 0))
theorem Vx_18_0 : Vx m c (Proc.devRef .tc main_v18_0) = (dats m 0 c).arrAt 10 cfg0.N :=
  Pipeline.withArrays_arr spec0 (by decide) c (V0 m c) (fun w => (dats m 0 c).arrAt w cfg0.N) 10
theorem Vx_18_1 : Vx m c (Proc.devRef .tc main_v18_1) = (dats m 0 c).arrAt 11 cfg0.N :=
  Pipeline.withArrays_arr spec0 (by decide) c (V0 m c) (fun w => (dats m 0 c).arrAt w cfg0.N) 11

/-- The list's place of place `j` of image `i`. -/
def pos (i : Fin 4) (j : Fin 900) : Fin 4096 := ⟨i.val * 1024 + j.val, by omega⟩
theorem img_pos (i : Fin 4) (j : Fin 900) : img (pos i j) = i := Fin.ext (by show (i.val * 1024 + j.val) / 1024 = i.val; omega)
theorem place_pos (i : Fin 4) (j : Fin 900) : place (pos i j) = j.castLE (by decide) := Fin.ext (by show (i.val * 1024 + j.val) % 1024 = j.val; omega)
theorem token_pos (i : Fin 4) (j : Fin 900) : token (sel m c) h (pos i j) = TailReference.row (sel m c) h i j :=
  Fin.ext (by show (sel m c (ix2 (img (pos i j)) (place (pos i j)))).toNat = _; rw [img_pos, place_pos])
theorem row_pos (i : Fin 4) (j : Fin 900) : row m c h (pos i j) = fun k => mem m c (ix3 i (TailReference.row (sel m c) h i j) k) := by
  unfold row
  rw [token_pos, img_pos]

/-- A list of 4096 rows read as 4 lists of 1024, of which the first 900: place `j` of image `i`. -/
theorem split256 (x : FVec Ideal S4096x256 .f32) (i : Fin 4) (j : Fin 900) (q : Fin 256) :
    extractStridedSlice S4x900x256 ![0, 0, 0] (shapeCast S4x1024x256 x shapeCasts_S4096x256_S4x1024x256) slices_S4x1024x256_S4x900x256_0_0_0 (ix3 i j q) = x (ix2 (pos i j) q) := by
  refine (show _ = shapeCast S4x1024x256 x shapeCasts_S4096x256_S4x1024x256 (ix3 i (j.castLE (by decide) : Fin 1024) q) by pointwise; rfl).trans ?_
  refine GatherPure.shapeCast_at _ _ _ _ ?_
  rw [Shape.rowMajor_val_three, Shape.rowMajor_val_two]
  rfl
theorem split4 (x : FVec Ideal S4096x4 .f32) (i : Fin 4) (j : Fin 900) (q : Fin 4) :
    extractStridedSlice S4x900x4 ![0, 0, 0] (shapeCast S4x1024x4 x shapeCasts_S4096x4_S4x1024x4) slices_S4x1024x4_S4x900x4_0_0_0 (ix3 i j q) = x (ix2 (pos i j) q) := by
  refine (show _ = shapeCast S4x1024x4 x shapeCasts_S4096x4_S4x1024x4 (ix3 i (j.castLE (by decide) : Fin 1024) q) by pointwise; rfl).trans ?_
  refine GatherPure.shapeCast_at _ _ _ _ ?_
  rw [Shape.rowMajor_val_three, Shape.rowMajor_val_two]
  rfl
theorem split91 (x : FVec Ideal S4096x91 .f32) (i : Fin 4) (j : Fin 900) (q : Fin 91) :
    extractStridedSlice S4x900x91 ![0, 0, 0] (shapeCast S4x1024x91 x shapeCasts_S4096x91_S4x1024x91) slices_S4x1024x91_S4x900x91_0_0_0 (ix3 i j q) = x (ix2 (pos i j) q) := by
  refine (show _ = shapeCast S4x1024x91 x shapeCasts_S4096x91_S4x1024x91 (ix3 i (j.castLE (by decide) : Fin 1024) q) by pointwise; rfl).trans ?_
  refine GatherPure.shapeCast_at _ _ _ _ ?_
  rw [Shape.rowMajor_val_three, Shape.rowMajor_val_two]
  rfl
theorem lanes4 (y : FVec Ideal S4096x128 .f32) (p : Fin 4096) (q : Fin 4) :
    extractStridedSlice S4096x4 ![0, 0] y slices_S4096x128_S4096x4_0_0 (ix2 p q) = y (ix2 p (q.castLE (by decide) : Fin 128)) := by
  pointwise
  rfl
theorem lanes91 (y : FVec Ideal S4096x128 .f32) (p : Fin 4096) (q : Fin 91) :
    extractStridedSlice S4096x91 ![0, 0] y slices_S4096x128_S4096x91_0_0 (ix2 p q) = y (ix2 p (q.castLE (by decide) : Fin 128)) := by
  pointwise
  rfl

/-- Two arrays of three axes are one if their entries are. -/
theorem ext3 {a b d : Nat} {α : Type} (f g : (⟨3, ![a, b, d]⟩ : Shape).Idx → α) (e : ∀ (i : Fin a) (j : Fin b) (q : Fin d), f (ix3 i j q) = g (ix3 i j q)) : f = g :=
  funext fun i => by
    have ei : i = ix3 (i 0) (i 1) (i 2) := funext fun l => match l with | 0 => rfl | 1 => rfl | 2 => rfl
    rw [ei]
    exact e _ _ _

include h in
/-- The tail's result is the reference's: the selected rows, their boxes and their logits, joined. -/
theorem final : (Pipeline.afterTail₀ cfgs (dats m) 0 (V0 m) [hostOps1] c main_v27 : FVec Ideal S4x900x351 .f32)
    = TailReference.join (TailReference.rows (mem m c) (sel m c))
        (TailReference.boxes (TailReference.last (w3 m c) (b3 m c) (TailReference.layer (TailReference.layer (TailReference.rows (mem m c) (sel m c)) (w1 m c) (b1 m c)) (w2 m c) (b2 m c)))
          (TailReference.rowAnchors (sel m c)))
        (TailReference.rowLogits (mem m c) (sel m c) (wcls m c) (bcls m c)) := by
  rw [tail_eq, Vx_16, Vx_18_0, Vx_18_1]
  have e1 : extractStridedSlice S4x900x256 ![0, 0, 0] (shapeCast S4x1024x256 (V m c main_v16 : FVec Ideal S4096x256 .f32) shapeCasts_S4096x256_S4x1024x256) slices_S4x1024x256_S4x900x256_0_0_0
      = TailReference.rows (mem m c) (sel m c) := ext3 _ _ fun i j q => by
    refine (split256 _ _ _ _).trans ((V_16_apply m c h _ _).trans (Eq.trans ?_ (TailReference.rows_apply (mem m c) (sel m c) h i j q).symm))
    rw [token_pos, img_pos]
  have e2 : extractStridedSlice S4x900x4 ![0, 0, 0] (shapeCast S4x1024x4 (extractStridedSlice S4096x4 ![0, 0] ((dats m 0 c).arrAt 10 cfg0.N : FVec Ideal S4096x128 .f32) slices_S4096x128_S4096x4_0_0) shapeCasts_S4096x4_S4x1024x4) slices_S4x1024x4_S4x900x4_0_0_0
      = TailReference.boxes (TailReference.last (w3 m c) (b3 m c) (TailReference.layer (TailReference.layer (TailReference.rows (mem m c) (sel m c)) (w1 m c) (b1 m c)) (w2 m c) (b2 m c)))
          (TailReference.rowAnchors (sel m c)) := ext3 _ _ fun i j q => by
    refine (split4 _ _ _ _).trans ((lanes4 _ _ _).trans ((arr10 m c h _ _).trans (Eq.trans ?_ (TailReference.rowBoxes_apply (h := h) (b := i) (k := j) (c := q) ..).symm)))
    rw [token_pos, row_pos]
  have e3 : extractStridedSlice S4x900x91 ![0, 0, 0] (shapeCast S4x1024x91 (extractStridedSlice S4096x91 ![0, 0] ((dats m 0 c).arrAt 11 cfg0.N : FVec Ideal S4096x128 .f32) slices_S4096x128_S4096x91_0_0) shapeCasts_S4096x91_S4x1024x91) slices_S4x1024x91_S4x900x91_0_0_0
      = TailReference.rowLogits (mem m c) (sel m c) (wcls m c) (bcls m c) := ext3 _ _ fun i j q => by
    refine (split91 _ _ _ _).trans ((lanes91 _ _ _).trans ((arr11 m c h _ _).trans (Eq.trans ?_ (TailReference.rowLogits_apply (h := h) (b := i) (k := j) (c := q) ..).symm)))
    rw [row_pos]
  exact congr (congr (congrArg TailReference.join e1) e2) e3

end Rows

end Cert.Proof.TailValue
end
-- ==== Proof.TailClaim.lean ====
/-
  The claims about the tail: its frames, its reference's frame, and that tail and reference end with equal results.
-/
module

public import proofs.«01_k».proof.Defs
public import proofs.«01_k».proof.Proof.Gen.Tail.Frame
public import proofs.«01_k».proof.Proof.Gen.TailIdeal.Frame
public import proofs.«01_k».proof.Proof.TailReference
public import proofs.«01_k».proof.Proof.TailValue
public import proofs.«01_k».proof.Proof.GatherPure
public import Idealize.ShloMosaic.Lib.Quiescent

@[expose] public section

set_option maxRecDepth 16384

noncomputable section

namespace Cert.Proof.TailClaim

open Idealize.ShloMosaic Idealize.SL.Sem

/-- The shapes the precondition takes fit together. -/
theorem preFacts : Cert.Pre_tail_in_rows.Facts where
  bcast_S_S4x1024 := by decide
  reducesTo_S4x1024_S_d0_1 := by decide
  h_S_ := by decide

attribute [local instance] Cert.Tail.Gen.facts Cert.TailIdeal.Gen.facts Cert.TailReferenceIdeal.Gen.facts preFacts

/-- The precondition says every selected row number is below 16384. -/
theorem rows_of_pre (x : FVec Ideal ⟨3, ![4, 16384, 256]⟩ .f32) (i : IVec ⟨2, ![4, 1024]⟩ 32)
    (wc : FVec Ideal ⟨2, ![256, 91]⟩ .f32) (bc : FVec Ideal ⟨1, ![91]⟩ .f32) (w1 : FVec Ideal ⟨2, ![256, 256]⟩ .f32) (b1 : FVec Ideal ⟨1, ![256]⟩ .f32)
    (w2 : FVec Ideal ⟨2, ![256, 256]⟩ .f32) (b2 : FVec Ideal ⟨1, ![256]⟩ .f32) (w3 : FVec Ideal ⟨2, ![256, 4]⟩ .f32) (b3 : FVec Ideal ⟨1, ![4]⟩ .f32)
    (h : Cert.Pre_tail_in_rows.fn (F := Ideal) x i wc bc w1 b1 w2 b2 w3 b3 = fun _ => 1#1) (j : (⟨2, ![4, 1024]⟩ : Shape).Idx) : (i j).toNat < 16384 := by
  have e := Host.reduce_andi_all _ _ _ _ _ (congrFun h ix0) j
  exact GatherPure.lt_of_cmp _ e

/-- The tail runs, keeps its arguments and ends with every semaphore at zero. -/
theorem kernel : Cert.quiescent_Tail := fun m g _ => Cert.Tail.Gen.frame m g

/-- So does the tail read with exact operations. -/
theorem kernelIdeal : Cert.quiescent_TailIdeal := fun m g _ => Cert.TailIdeal.Gen.frame m g

/-- The same, said of selected row numbers in the memory. -/
theorem kernelIdeal_tail_in_rows : Cert.quiescent_TailIdeal_pre_tail_in_rows := fun m g _ => Cert.TailIdeal.Gen.frame m g

/-- The reference runs, keeps its arguments and ends with every semaphore at zero: it has none. -/
theorem reference : Cert.quiescent_TailReferenceIdeal := fun m g _ =>
  (θ_run _ _ _).mono (fun _ hr => ⟨fun c => (hr c).2, sem_eq_zero_of_no_sems (by decide) _⟩)
    (Cert.TailReferenceIdeal.Value.run m g)

/-- The same, said of selected row numbers in the memory. -/
theorem reference_tail_in_rows : Cert.quiescent_TailReferenceIdeal_pre_tail_in_rows := fun m g _ => reference m g trivial

/-- From memories that agree on the arguments, the selected row numbers in the memory, tail and reference end with equal results. -/
theorem algebraic : Cert.algebraic_TailIdeal_TailReferenceIdeal_pre_tail_in_rows := fun m g m' g' h hm => by
  have hi : ∀ c j, (TailEntry.sel m c j).toNat < 16384 := fun c j => rows_of_pre _ _ _ _ _ _ _ _ _ _ (h c) j
  refine ⟨fun c => Pipeline.afterTail₀ Cert.TailIdeal.cfgs (Cert.TailIdeal.Gen.dats m) 0 (Cert.TailIdeal.Gen.V0 m) [Cert.TailIdeal.Gen.hostOps1] c Cert.TailIdeal.main_v27, ?_, ?_⟩
  · exact (θ_run _ _ _).mono (fun _ hr c => ⟨(hr.1 c).2 Cert.TailIdeal.main_v27 (by decide), hr.2 c⟩)
      (θ_run_and (Cert.TailIdeal.Gen.run_main m g) (Cert.TailIdeal.Gen.unchanged m g))
  · refine (θ_run _ _ _).mono (fun _ hr c => ⟨(hr c).1.trans ?_, (hr c).2⟩) (Cert.TailReferenceIdeal.Value.run m' g')
    refine (TailReference.res_eq m' c).trans (Eq.trans ?_ (TailValue.final m c (hi c)).symm)
    obtain ⟨h0, h1, h2, h3, h4, h5, h6, h7, h8, h9⟩ := hm c
    rw [h0, h1, h2, h3, h4, h5, h6, h7, h8, h9]

end Cert.Proof.TailClaim

end
-- ==== Proof.lean ====
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.Pre_in_rows
public import proofs.«01_k».proof.Proof.Gen.GatherReferenceIdeal.Run
public import proofs.«01_k».proof.Proof.GatherClaim
public import proofs.«01_k».proof.Proof.Gen.Scores.Frame
public import proofs.«01_k».proof.Proof.Gen.ScoresIdeal.Frame
public import proofs.«01_k».proof.Proof.Gen.ScoresIdeal.Value
public import proofs.«01_k».proof.Proof.Gen.ScoresReferenceIdeal.Run
public import proofs.«01_k».proof.Proof.ScoresClaim
public import proofs.«01_k».proof.Proof.Gen.Tail.Frame
public import proofs.«01_k».proof.Proof.Gen.TailIdeal.Frame
public import proofs.«01_k».proof.Proof.Gen.TailReferenceIdeal.Run
public import proofs.«01_k».proof.Proof.TailClaim
public import Idealize.ShloMosaic.Adequacy
public import Idealize.ShloMosaic.Init

@[expose] public section

noncomputable section

namespace Cert.Proof

open Idealize.ShloMosaic Idealize.SL.Sem Cert.Gather

theorem claim : Cert.Claim := ⟨Cert.Gather.Gen.facts, Cert.GatherIdeal.Gen.facts, Cert.GatherReferenceIdeal.Gen.facts,
  Cert.Scores.Gen.facts, Cert.ScoresIdeal.Gen.facts, Cert.ScoresReferenceIdeal.Gen.facts,
  Cert.Tail.Gen.facts, Cert.TailIdeal.Gen.facts, Cert.TailReferenceIdeal.Gen.facts,
  Cert.Pre_in_rows.Gen.facts, TailClaim.preFacts,
  GatherClaim.kernel, GatherClaim.kernelIdeal, GatherClaim.reference, GatherClaim.reference_in_rows,
  ScoresClaim.kernel, ScoresClaim.kernelIdeal, ScoresClaim.reference,
  TailClaim.kernel, TailClaim.kernelIdeal, TailClaim.kernelIdeal_tail_in_rows, TailClaim.reference, TailClaim.reference_tail_in_rows,
  trivial, GatherClaim.algebraic, trivial, ScoresClaim.algebraic, trivial, TailClaim.algebraic⟩

end Cert.Proof

end
